-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_bias_distinct_channels [hPre_zero_bias_distinct_channels : Cert.Pre_zero_bias_distinct_channels.Facts] (m : (ℓ : Loc Cert.KernelIdeal.nD Cert.KernelIdeal.τ Cert.KernelIdeal.sig) → Buf (Elt Ideal) ℓ) : Prop :=
  ∀ c : Dev Cert.KernelIdeal.nD,
    (Cert.Pre_zero_bias_distinct_channels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_zero_bias_distinct_channels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_zero_bias_distinct_channels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_bias_distinct_channels [hPre_zero_bias_distinct_channels : Cert.Pre_zero_bias_distinct_channels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_bias_distinct_channels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_zero_bias_distinct_channels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_zero_bias_distinct_channels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_zero_bias_distinct_channels [hKernelIdeal : Cert.KernelIdeal.Facts] [hPre_zero_bias_distinct_channels : Cert.Pre_zero_bias_distinct_channels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_bias_distinct_channels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_zero_bias_distinct_channels [hReferenceIdeal : Cert.ReferenceIdeal.Facts] [hPre_zero_bias_distinct_channels : Cert.Pre_zero_bias_distinct_channels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_bias_distinct_channels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "inv_hw" .f32 0x3BA72F05#32 ((1 / 196 : ℝ) : EReal)

def algebraic_KernelIdeal_ReferenceIdeal_pre_zero_bias_distinct_channels [hKernelIdeal : Cert.KernelIdeal.Facts] [hReferenceIdeal : Cert.ReferenceIdeal.Facts] [hPre_zero_bias_distinct_channels : Cert.Pre_zero_bias_distinct_channels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_bias_distinct_channels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_zero_bias_distinct_channels : Cert.Pre_zero_bias_distinct_channels.Facts),
    quiescent_Kernel (hKernel := hKernel)
    ∧ quiescent_KernelIdeal (hKernelIdeal := hKernelIdeal)
    ∧ quiescent_KernelIdeal_pre_zero_bias_distinct_channels (hKernelIdeal := hKernelIdeal) (hPre_zero_bias_distinct_channels := hPre_zero_bias_distinct_channels)
    ∧ quiescent_ReferenceIdeal (hReferenceIdeal := hReferenceIdeal)
    ∧ quiescent_ReferenceIdeal_pre_zero_bias_distinct_channels (hReferenceIdeal := hReferenceIdeal) (hPre_zero_bias_distinct_channels := hPre_zero_bias_distinct_channels)
    ∧ preserves_Kernel_KernelIdeal
    ∧ algebraic_KernelIdeal_ReferenceIdeal_pre_zero_bias_distinct_channels (hKernelIdeal := hKernelIdeal) (hReferenceIdeal := hReferenceIdeal) (hPre_zero_bias_distinct_channels := hPre_zero_bias_distinct_channels)
-- ==== Pre_zero_bias_distinct_channels.lean ====
abbrev S256x14x14x192 : Shape := ⟨4, ![256, 14, 14, 192]⟩
abbrev S192x384 : Shape := ⟨2, ![192, 384]⟩
abbrev S384 : Shape := ⟨1, ![384]⟩
abbrev S384x256 : Shape := ⟨2, ![384, 256]⟩
abbrev S256 : Shape := ⟨1, ![256]⟩
abbrev S256x1 : Shape := ⟨2, ![256, 1]⟩
abbrev S1 : Shape := ⟨1, ![1]⟩
abbrev S75264x3 : Shape := ⟨2, ![75264, 3]⟩
abbrev S3 : Shape := ⟨1, ![3]⟩
abbrev S12544x1 : Shape := ⟨2, ![12544, 1]⟩
abbrev S64 : Shape := ⟨1, ![64]⟩
abbrev S64x64 : Shape := ⟨2, ![64, 64]⟩
abbrev S_ : Shape := ⟨0, ![]⟩

class Facts : Prop where
  bcast_S64_S64x64_0 : S64.BroadcastsInDim S64x64 (![0] : Fin 1 → Fin S64x64.rank)
  bcast_S64_S64x64_1 : S64.BroadcastsInDim S64x64 (![1] : Fin 1 → Fin S64x64.rank)
  bcast_S_S384 : S_.BroadcastsInDim S384 (![] : Fin 0 → Fin S384.rank)
  bcast_S_S64 : S_.BroadcastsInDim S64 (![] : Fin 0 → Fin S64.rank)

variable [Facts]

def fn {F : FTy → Type} [FloatOps F] (main_arg0 : FVec F S256x14x14x192 .f32) (main_arg1 : FVec F S192x384 .f32) (main_arg2 : FVec F S384 .f32) (main_arg3 : FVec F S384x256 .f32) (main_arg4 : FVec F S256 .f32) (main_arg5 : FVec F S256x1 .f32) (main_arg6 : FVec F S1 .f32) (main_arg7 : FVec F S75264x3 .f32) (main_arg8 : FVec F S3 .f32) (main_arg9 : FVec F S12544x1 .f32) (main_arg10 : FVec F S1 .f32) (main_arg11 : IVec S64 32) : IVec S384 1 × IVec S64 1 × IVec S64x64 1 :=
  let main_v0 : IVec S64x64 32 := iotaInDim S64x64 32 0
  let main_v1 : IVec S64x64 32 := iotaInDim S64x64 32 1
  let main_v2 : IVec S64x64 32 := broadcastInDim S64x64 ![0] bcast_S64_S64x64_0 main_arg11
  let main_v3 : IVec S64x64 32 := broadcastInDim S64x64 ![1] bcast_S64_S64x64_1 main_arg11
  let main_cst : FVec F S_ .f32 := constant S_ .f32 0x00000000#32
  let main_v4 : FVec F S384 .f32 := broadcastInDim S384 ![] bcast_S_S384 main_cst
  let main_v5 : IVec S384 1 := cmpf .oeq main_arg2 main_v4
  let main_c : IVec S_ 32 := constantI S_ 32 0#32
  let main_v6 : IVec S64 32 := broadcastInDim S64 ![] bcast_S_S64 main_c
  let main_v7 : IVec S64 1 := cmpi .sge main_arg11 main_v6
  let main_c_0 : IVec S_ 32 := constantI S_ 32 384#32
  let main_v8 : IVec S64 32 := broadcastInDim S64 ![] bcast_S_S64 main_c_0
  let main_v9 : IVec S64 1 := cmpi .slt main_arg11 main_v8
  let main_v10 : IVec S64 1 := andi main_v7 main_v9
  let main_v11 : IVec S64x64 1 := cmpi .eq main_v0 main_v1
  let main_v12 : IVec S64x64 1 := cmpi .ne main_v2 main_v3
  let main_v13 : IVec S64x64 1 := ori main_v11 main_v12
  (main_v5, main_v10, main_v13)
-- ==== Kernel.lean ====
abbrev S256x14x14x192 : Shape := ⟨4, ![256, 14, 14, 192]⟩
abbrev S192x384 : Shape := ⟨2, ![192, 384]⟩
abbrev S384 : Shape := ⟨1, ![384]⟩
abbrev S384x256 : Shape := ⟨2, ![384, 256]⟩
abbrev S256 : Shape := ⟨1, ![256]⟩
abbrev S256x1 : Shape := ⟨2, ![256, 1]⟩
abbrev S1 : Shape := ⟨1, ![1]⟩
abbrev S75264x3 : Shape := ⟨2, ![75264, 3]⟩
abbrev S3 : Shape := ⟨1, ![3]⟩
abbrev S12544x1 : Shape := ⟨2, ![12544, 1]⟩
abbrev S64 : Shape := ⟨1, ![64]⟩
abbrev S256x196x192 : Shape := ⟨3, ![256, 196, 192]⟩
abbrev S196x384x3 : Shape := ⟨3, ![196, 384, 3]⟩
abbrev S384x196x3 : Shape := ⟨3, ![384, 196, 3]⟩
abbrev S384x588 : Shape := ⟨2, ![384, 588]⟩
abbrev S196x64 : Shape := ⟨2, ![196, 64]⟩
abbrev S64x196 : Shape := ⟨2, ![64, 196]⟩
abbrev S1x64 : Shape := ⟨2, ![1, 64]⟩
abbrev S1x384 : Shape := ⟨2, ![1, 384]⟩
abbrev S1x256 : Shape := ⟨2, ![1, 256]⟩
abbrev S1x1 : Shape := ⟨2, ![1, 1]⟩
abbrev S1x3 : Shape := ⟨2, ![1, 3]⟩
abbrev S256x3 : Shape := ⟨2, ![256, 3]⟩
abbrev S32x196x192 : Shape := ⟨3, ![32, 196, 192]⟩
abbrev S32x3 : Shape := ⟨2, ![32, 3]⟩
abbrev S384x784 : Shape := ⟨2, ![384, 784]⟩
abbrev S896x112 : Shape := ⟨2, ![896, 112]⟩
abbrev S384x64 : Shape := ⟨2, ![384, 64]⟩
abbrev S384x196 : Shape := ⟨2, ![384, 196]⟩
abbrev S384x84 : Shape := ⟨2, ![384, 84]⟩
abbrev S384x28 : Shape := ⟨2, ![384, 28]⟩
abbrev S896x384 : Shape := ⟨2, ![896, 384]⟩
abbrev S32x28x192 : Shape := ⟨3, ![32, 28, 192]⟩
abbrev S896x192 : Shape := ⟨2, ![896, 192]⟩
abbrev S384x112 : Shape := ⟨2, ![384, 112]⟩
abbrev S32x28x112 : Shape := ⟨3, ![32, 28, 112]⟩
abbrev S32x112 : Shape := ⟨2, ![32, 112]⟩
abbrev S32x28x384 : Shape := ⟨3, ![32, 28, 384]⟩
abbrev S32x384 : Shape := ⟨2, ![32, 384]⟩
abbrev S32x256 : Shape := ⟨2, ![32, 256]⟩
abbrev S32x1 : Shape := ⟨2, ![32, 1]⟩
abbrev S1x112 : Shape := ⟨2, ![1, 112]⟩
abbrev S32 : Shape := ⟨1, ![32]⟩

abbrev nBuf : Space → Nat
  | .hbm => 27
  | .vmem => 18
  | .smem => 0
  | _ => 0

abbrev bufTy : (tb : Table) → Fin (tcTables nBuf tb) → BufTy
  | .hbm, ⟨0, _⟩ => ⟨S256x14x14x192, .f32⟩
  | .hbm, ⟨1, _⟩ => ⟨S192x384, .f32⟩
  | .hbm, ⟨2, _⟩ => ⟨S384, .f32⟩
  | .hbm, ⟨3, _⟩ => ⟨S384x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S75264x3, .f32⟩
  | .hbm, ⟨8, _⟩ => ⟨S3, .f32⟩
  | .hbm, ⟨9, _⟩ => ⟨S12544x1, .f32⟩
  | .hbm, ⟨10, _⟩ => ⟨S1, .f32⟩
  | .hbm, ⟨11, _⟩ => ⟨S64, .i32⟩
  | .hbm, ⟨12, _⟩ => ⟨S256x196x192, .f32⟩
  | .hbm, ⟨13, _⟩ => ⟨S196x384x3, .f32⟩
  | .hbm, ⟨14, _⟩ => ⟨S384x196x3, .f32⟩
  | .hbm, ⟨15, _⟩ => ⟨S384x588, .f32⟩
  | .hbm, ⟨16, _⟩ => ⟨S384x588, .bf16⟩
  | .hbm, ⟨17, _⟩ => ⟨S196x64, .f32⟩
  | .hbm, ⟨18, _⟩ => ⟨S64x196, .f32⟩
  | .hbm, ⟨19, _⟩ => ⟨S64x196, .bf16⟩
  | .hbm, ⟨20, _⟩ => ⟨S1x64, .i32⟩
  | .hbm, ⟨21, _⟩ => ⟨S1x384, .f32⟩
  | .hbm, ⟨22, _⟩ => ⟨S1x256, .f32⟩
  | .hbm, ⟨23, _⟩ => ⟨S1x1, .f32⟩
  | .hbm, ⟨24, _⟩ => ⟨S1x3, .f32⟩
  | .hbm, ⟨25, _⟩ => ⟨S1x1, .f32⟩
  | .hbm, ⟨26, _⟩ => ⟨S256x3, .f32⟩
  | .local _ .vmem, ⟨0, _⟩ => ⟨S32x196x192, .f32⟩
  | .local _ .vmem, ⟨1, _⟩ => ⟨S32x196x192, .f32⟩
  | .local _ .vmem, ⟨2, _⟩ => ⟨S192x384, .f32⟩
  | .local _ .vmem, ⟨3, _⟩ => ⟨S1x384, .f32⟩
  | .local _ .vmem, ⟨4, _⟩ => ⟨S384x256, .f32⟩
  | .local _ .vmem, ⟨5, _⟩ => ⟨S1x256, .f32⟩
  | .local _ .vmem, ⟨6, _⟩ => ⟨S256x1, .f32⟩
  | .local _ .vmem, ⟨7, _⟩ => ⟨S1x1, .f32⟩
  | .local _ .vmem, ⟨8, _⟩ => ⟨S384x588, .bf16⟩
  | .local _ .vmem, ⟨9, _⟩ => ⟨S1x3, .f32⟩
  | .local _ .vmem, ⟨10, _⟩ => ⟨S64x196, .bf16⟩
  | .local _ .vmem, ⟨11, _⟩ => ⟨S1x1, .f32⟩
  | .local _ .vmem, ⟨12, _⟩ => ⟨S1x64, .i32⟩
  | .local _ .vmem, ⟨13, _⟩ => ⟨S32x3, .f32⟩
  | .local _ .vmem, ⟨14, _⟩ => ⟨S32x3, .f32⟩
  | .local _ .vmem, ⟨15, _⟩ => ⟨S192x384, .bf16⟩
  | .local _ .vmem, ⟨16, _⟩ => ⟨S384x784, .bf16⟩
  | .local _ .vmem, ⟨17, _⟩ => ⟨S896x112, .f32⟩
  | _, _ => ⟨S256x14x14x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x196x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x588 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x196 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S32x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "inv_hw" => some ((1 / 196 : ℝ) : EReal)
  | _ => none
-- ==== ReferenceIdeal.lean ====
abbrev S256x14x14x192 : Shape := ⟨4, ![256, 14, 14, 192]⟩
abbrev S192x384 : Shape := ⟨2, ![192, 384]⟩
abbrev S384 : Shape := ⟨1, ![384]⟩
abbrev S384x256 : Shape := ⟨2, ![384, 256]⟩
abbrev S256 : Shape := ⟨1, ![256]⟩
abbrev S256x1 : Shape := ⟨2, ![256, 1]⟩
abbrev S1 : Shape := ⟨1, ![1]⟩
abbrev S75264x3 : Shape := ⟨2, ![75264, 3]⟩
abbrev S3 : Shape := ⟨1, ![3]⟩
abbrev S12544x1 : Shape := ⟨2, ![12544, 1]⟩
abbrev S64 : Shape := ⟨1, ![64]⟩
abbrev S256x14x14x384 : Shape := ⟨4, ![256, 14, 14, 384]⟩
abbrev S1x1x1x384 : Shape := ⟨4, ![1, 1, 1, 384]⟩
abbrev S_ : Shape := ⟨0, ![]⟩
abbrev S256x384 : Shape := ⟨2, ![256, 384]⟩
abbrev S256x256 : Shape := ⟨2, ![256, 256]⟩
abbrev S1x256 : Shape := ⟨2, ![1, 256]⟩
abbrev S1x1 : Shape := ⟨2, ![1, 1]⟩
abbrev S64x1 : Shape := ⟨2, ![64, 1]⟩
abbrev S256x14x14x64 : Shape := ⟨4, ![256, 14, 14, 64]⟩
abbrev S256x12544 : Shape := ⟨2, ![256, 12544]⟩
abbrev S256x75264 : Shape := ⟨2, ![256, 75264]⟩
abbrev S256x3 : Shape := ⟨2, ![256, 3]⟩
abbrev S1x3 : Shape := ⟨2, ![1, 3]⟩

abbrev nBuf : Space → Nat
  | .hbm => 107
  | .vmem => 0
  | .smem => 0
  | _ => 0

abbrev bufTy : (tb : Table) → Fin (tcTables nBuf tb) → BufTy
  | .hbm, ⟨0, _⟩ => ⟨S256x14x14x192, .f32⟩
  | .hbm, ⟨1, _⟩ => ⟨S192x384, .f32⟩
  | .hbm, ⟨2, _⟩ => ⟨S384, .f32⟩
  | .hbm, ⟨3, _⟩ => ⟨S384x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S75264x3, .f32⟩
  | .hbm, ⟨8, _⟩ => ⟨S3, .f32⟩
  | .hbm, ⟨9, _⟩ => ⟨S12544x1, .f32⟩
  | .hbm, ⟨10, _⟩ => ⟨S1, .f32⟩
  | .hbm, ⟨11, _⟩ => ⟨S64, .i32⟩
  | .hbm, ⟨12, _⟩ => ⟨S256x14x14x384, .f32⟩
  | .hbm, ⟨13, _⟩ => ⟨S1x1x1x384, .f32⟩
  | .hbm, ⟨14, _⟩ => ⟨S256x14x14x384, .f32⟩
  | .hbm, ⟨15, _⟩ => ⟨S256x14x14x384, .f32⟩
  | .hbm, ⟨16, _⟩ => ⟨S_, .f32⟩
  | .hbm, ⟨17, _⟩ => ⟨S256x14x14x384, .f32⟩
  | .hbm, ⟨18, _⟩ => ⟨S256x14x14x384, .f32⟩
  | .hbm, ⟨19, _⟩ => ⟨S_, .f32⟩
  | .hbm, ⟨20, _⟩ => ⟨S256x384, .f32⟩
  | .hbm, ⟨21, _⟩ => ⟨S_, .f32⟩
  | .hbm, ⟨22, _⟩ => ⟨S256x384, .f32⟩
  | .hbm, ⟨23, _⟩ => ⟨S256x384, .f32⟩
  | .hbm, ⟨24, _⟩ => ⟨S256x256, .f32⟩
  | .hbm, ⟨25, _⟩ => ⟨S1x256, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S256x1, .f32⟩
  | .hbm, ⟨30, _⟩ => ⟨S1x1, .f32⟩
  | .hbm, ⟨31, _⟩ => ⟨S256x1, .f32⟩
  | .hbm, ⟨32, _⟩ => ⟨S256x1, .f32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .i1⟩
  | .hbm, ⟨37, _⟩ => ⟨S_, .i32⟩
  | .hbm, ⟨38, _⟩ => ⟨S64, .i32⟩
  | .hbm, ⟨39, _⟩ => ⟨S64, .i1⟩
  | .hbm, ⟨40, _⟩ => ⟨S_, .i32⟩
  | .hbm, ⟨41, _⟩ => ⟨S64, .i32⟩
  | .hbm, ⟨42, _⟩ => ⟨S64, .i32⟩
  | .hbm, ⟨43, _⟩ => ⟨S64, .i32⟩
  | .hbm, ⟨44, _⟩ => ⟨S64x1, .i32⟩
  | .hbm, ⟨45, _⟩ => ⟨S1, .i32⟩
  | .hbm, ⟨46, _⟩ => ⟨S_, .i32⟩
  | .hbm, ⟨47, _⟩ => ⟨S64x1, .i32⟩
  | .hbm, ⟨48, _⟩ => ⟨S64x1, .i1⟩
  | .hbm, ⟨49, _⟩ => ⟨S1x1, .i32⟩
  | .hbm, ⟨50, _⟩ => ⟨S64x1, .i32⟩
  | .hbm, ⟨51, _⟩ => ⟨S64x1, .i1⟩
  | .hbm, ⟨52, _⟩ => ⟨S64x1, .i1⟩
  | .hbm, ⟨53, _⟩ => ⟨S_, .i1⟩
  | .hbm, ⟨54, _⟩ => ⟨S64, .i1⟩
  | .hbm, ⟨55, _⟩ => ⟨S256x14x14x64, .f32⟩
  | .hbm, ⟨56, _⟩ => ⟨S256x14x14x64, .i1⟩
  | .hbm, ⟨57, _⟩ => ⟨S_, .f32⟩
  | .hbm, ⟨58, _⟩ => ⟨S256x14x14x64, .f32⟩
  | .hbm, ⟨59, _⟩ => ⟨S256x14x14x64, .f32⟩
  | .hbm, ⟨60, _⟩ => ⟨S256x12544, .f32⟩
  | .hbm, ⟨61, _⟩ => ⟨S256x1, .f32⟩
  | .hbm, ⟨62, _⟩ => ⟨S1x1, .f32⟩
  | .hbm, ⟨63, _⟩ => ⟨S256x1, .f32⟩
  | .hbm, ⟨64, _⟩ => ⟨S256x1, .f32⟩
  | .hbm, ⟨65, _⟩ => ⟨S256x1, .f32⟩
  | .hbm, ⟨66, _⟩ => ⟨S256x1, .f32⟩
  | .hbm, ⟨67, _⟩ => ⟨S_, .f32⟩
  | .hbm, ⟨68, _⟩ => ⟨S256x1, .f32⟩
  | .hbm, ⟨69, _⟩ => ⟨S256x1, .f32⟩
  | .hbm, ⟨70, _⟩ => ⟨S_, .f32⟩
  | .hbm, ⟨71, _⟩ => ⟨S256x1, .f32⟩
  | .hbm, ⟨72, _⟩ => ⟨S256x1, .f32⟩
  | .hbm, ⟨73, _⟩ => ⟨S256x75264, .f32⟩
  | .hbm, ⟨74, _⟩ => ⟨S256x3, .f32⟩
  | .hbm, ⟨75, _⟩ => ⟨S1x3, .f32⟩
  | .hbm, ⟨76, _⟩ => ⟨S256x3, .f32⟩
  | .hbm, ⟨77, _⟩ => ⟨S256x3, .f32⟩
  | .hbm, ⟨78, _⟩ => ⟨S_, .f32⟩
  | .hbm, ⟨79, _⟩ => ⟨S256, .f32⟩
  | .hbm, ⟨80, _⟩ => ⟨S_, .f32⟩
  | .hbm, ⟨81, _⟩ => ⟨S256, .f32⟩
  | .hbm, ⟨82, _⟩ => ⟨S256, .f32⟩
  | .hbm, ⟨83, _⟩ => ⟨S256x1, .f32⟩
  | .hbm, ⟨84, _⟩ => ⟨S256x3, .f32⟩
  | .hbm, ⟨85, _⟩ => ⟨S256x3, .f32⟩
  | .hbm, ⟨86, _⟩ => ⟨S256x3, .f32⟩
  | .hbm, ⟨87, _⟩ => ⟨S_, .f32⟩
  | .hbm, ⟨88, _⟩ => ⟨S256, .f32⟩
  | .hbm, ⟨89, _⟩ => ⟨S256x1, .f32⟩
  | .hbm, ⟨90, _⟩ => ⟨S256x3, .f32⟩
  | .hbm, ⟨91, _⟩ => ⟨S256x3, .f32⟩
  | .hbm, ⟨92, _⟩ => ⟨S_, .f32⟩
  | .hbm, ⟨93, _⟩ => ⟨S256x1, .f32⟩
  | .hbm, ⟨94, _⟩ => ⟨S256x1, .f32⟩
  | .hbm, ⟨95, _⟩ => ⟨S_, .f32⟩
  | .hbm, ⟨96, _⟩ => ⟨S256x1, .f32⟩
  | .hbm, ⟨97, _⟩ => ⟨S256x1, .f32⟩
  | .hbm, ⟨98, _⟩ => ⟨S256x3, .f32⟩
  | .hbm, ⟨99, _⟩ => ⟨S256, .f32⟩
  | .hbm, ⟨100, _⟩ => ⟨S_, .f32⟩
  | .hbm, ⟨101, _⟩ => ⟨S256, .f32⟩
  | .hbm, ⟨102, _⟩ => ⟨S256, .i1⟩
  | .hbm, ⟨103, _⟩ => ⟨S256, .i1⟩
  | .hbm, ⟨104, _⟩ => ⟨S256x1, .i1⟩
  | .hbm, ⟨105, _⟩ => ⟨S256x3, .i1⟩
  | .hbm, ⟨106, _⟩ => ⟨S256x3, .f32⟩
  | _, _ => ⟨S256x14x14x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_cst : Ref sig .tc := ⟨.hbm, 57, rfl⟩
abbrev main_call0_v15 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_3 : Ref sig .tc := ⟨.hbm, 67, rfl⟩
abbrev main_v29 : Ref sig .tc := ⟨.hbm, 68, rfl⟩
abbrev main_v30 : Ref sig .tc := ⟨.hbm, 69, rfl⟩
abbrev main_cst_4 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_5 : Ref sig .tc := ⟨.hbm, 78, rfl⟩
abbrev main_v38 : Ref sig .tc := ⟨.hbm, 79, rfl⟩
abbrev main_cst_6 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_cst_7 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_cst_8 : Ref sig .tc := ⟨.hbm, 92, rfl⟩
abbrev main_v49 : Ref sig .tc := ⟨.hbm, 93, rfl⟩
abbrev main_v50 : Ref sig .tc := ⟨.hbm, 94, rfl⟩
abbrev main_cst_9 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_cst_10 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_call1_v0 : Ref sig .tc := ⟨.hbm, 105, rfl⟩
abbrev main_v59 : Ref sig .tc := ⟨.hbm, 106, rfl⟩

abbrev nD : Nat := 1
abbrev τ : Topo := Topo.v7x

variable {F : FTy → Type} [FloatOps F]
-- ==== Proof.KernelOut.lean ====
/-
  What one run of the kernel's body leaves, as a plain function of the blocks it reads, and what the three scratches
  hold: they are filled at the first grid point and kept from then on, so every point computes the same function
  of its own block of images.
-/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Out

open Idealize.ShloMosaic Idealize.ShloMosaic.TcCoe Idealize.SL.Sem Cert.KernelIdeal Cert.KernelIdeal.Gen

/-- The `j`-th chunk of 28 positions of a block of images. -/
abbrev ch0 (x : Vec Ideal S32x196x192 .f32) := View.ld x (Rect.unit ![0, 0, 0] ![32, 28, 192] inb_S32x196x192_S32x28x192_0_0_0)
abbrev ch1 (x : Vec Ideal S32x196x192 .f32) := View.ld x (Rect.unit ![0, 28, 0] ![32, 28, 192] inb_S32x196x192_S32x28x192_0_28_0)
abbrev ch2 (x : Vec Ideal S32x196x192 .f32) := View.ld x (Rect.unit ![0, 56, 0] ![32, 28, 192] inb_S32x196x192_S32x28x192_0_56_0)
abbrev ch3 (x : Vec Ideal S32x196x192 .f32) := View.ld x (Rect.unit ![0, 84, 0] ![32, 28, 192] inb_S32x196x192_S32x28x192_0_84_0)
abbrev ch4 (x : Vec Ideal S32x196x192 .f32) := View.ld x (Rect.unit ![0, 112, 0] ![32, 28, 192] inb_S32x196x192_S32x28x192_0_112_0)
abbrev ch5 (x : Vec Ideal S32x196x192 .f32) := View.ld x (Rect.unit ![0, 140, 0] ![32, 28, 192] inb_S32x196x192_S32x28x192_0_140_0)
abbrev ch6 (x : Vec Ideal S32x196x192 .f32) := View.ld x (Rect.unit ![0, 168, 0] ![32, 28, 192] inb_S32x196x192_S32x28x192_0_168_0)

/-- The column index of a row of 112. -/
abbrev col112 : IVec S1x112 32 := iota Kind.tc S1x112 32 [1] iota_S1x112_d1_w32

/-- The masked products gathered per image: one row of 112 columns each. -/
def sacc (x : Vec Ideal S32x196x192 .f32) (wf : Vec Ideal S192x384 .bf16) (wall : Vec Ideal S384x784 .bf16)
    (ms : Vec Ideal S896x112 .f32) : FVec Ideal S32x112 .f32 :=
  k0_pay21 wf wall (k0_pay17 wf wall (k0_pay12 wf wall (ch0 x) (ch1 x)) (k0_pay13 (ch2 x)) (ch3 x) (ch4 x))
    (k0_pay18 wf (ch5 x)) (ch6 x) ms

/-- The match score of every image, before its bias. -/
def pool (x : Vec Ideal S32x196x192 .f32) (wf : Vec Ideal S192x384 .bf16) (x3 : Vec Ideal S384x256 .f32)
    (x4 : Vec Ideal S1x256 .f32) (x5 : Vec Ideal S256x1 .f32) : FVec Ideal S32x1 .f32 :=
  k0_pay22 wf (k0_pay19 wf (k0_pay11 wf (ch0 x) (ch1 x)) (k0_pay13 (ch2 x)) (ch3 x) (ch4 x) (ch5 x)) (ch6 x) x3 x4 x5

/-- The weights laid out side by side: for each of the seven chunks, 84 columns of base weights, then 28 columns of
    pattern weights scattered to the channels they belong to. -/
def wallOf (x7 : Vec Ideal S384x588 .bf16) (x9 : Vec Ideal S64x196 .bf16) (x11 : Vec Ideal S1x64 .i32) : FVec Ideal S384x784 .bf16 :=
  k0_pay2 x11 x9 (View.ld x7 (Rect.unit ![0, 0] ![384, 84] inb_S384x588_S384x84_0_0))
    (View.ld x7 (Rect.unit ![0, 84] ![384, 84] inb_S384x588_S384x84_0_84))
    (View.ld x7 (Rect.unit ![0, 168] ![384, 84] inb_S384x588_S384x84_0_168))
    (View.ld x7 (Rect.unit ![0, 252] ![384, 84] inb_S384x588_S384x84_0_252))
    (View.ld x7 (Rect.unit ![0, 336] ![384, 84] inb_S384x588_S384x84_0_336))
    (View.ld x7 (Rect.unit ![0, 420] ![384, 84] inb_S384x588_S384x84_0_420))
    (View.ld x7 (Rect.unit ![0, 504] ![384, 84] inb_S384x588_S384x84_0_504))

/-- The mask that keeps, in each row of products, the columns that belong to the row's own position. -/
def mselOf : FVec Ideal S896x112 .f32 :=
  k0_pay7 (k0_pay3 (iota Kind.tc S896x112 32 [0] iota_S896x112_d0_w32)) k0_pay4 k0_pay5 k0_pay6

/-- The three base scores of every image, before their biases. -/
def base0 (s : FVec Ideal S32x112 .f32) : FVec Ideal S32x1 .f32 := k0_pay24 s
def base1 (s : FVec Ideal S32x112 .f32) : FVec Ideal S32x1 .f32 :=
  k0_pay30 s k0_pay25 (Scalar.select (Scalar.cmpi .eq (3#32) (0#32)) (1#32) (3#32)) k0_pay26 k0_pay27 k0_pay28 k0_pay29
def base2 (s : FVec Ideal S32x112 .f32) : FVec Ideal S32x1 .f32 := k0_pay31 s col112

/-- What the body leaves in the output block. -/
def body (x : Vec Ideal S32x196x192 .f32) (wf : Vec Ideal S192x384 .bf16) (wall : Vec Ideal S384x784 .bf16)
    (ms : Vec Ideal S896x112 .f32) (x3 : Vec Ideal S384x256 .f32) (x4 : Vec Ideal S1x256 .f32) (x5 : Vec Ideal S256x1 .f32)
    (x6 : Vec Ideal S1x1 .f32) (x8 : Vec Ideal S1x3 .f32) (x10 : Vec Ideal S1x1 .f32) : FVec Ideal S32x3 .f32 :=
  k0_pay1 (k0_pay23 (pool x wf x3 x4 x5) x6) (base0 (sacc x wf wall ms)) (base1 (sacc x wf wall ms))
    (base2 (sacc x wf wall ms)) (k0_pay32 (sacc x wf wall ms) col112) x8 x10

variable (m : (ℓ : Loc nD τ sig) → Buf (Elt Ideal) ℓ)

theorem hz2 : (![0, 0] : Fin 2 → ℕ) = fun _ => 0 := funext fun a => by fin_cases a <;> rfl

/-- The weights do not change when the blocks they are made of are first written down and then read back whole. -/
theorem wall_read {x7 y7 : Vec Ideal S384x588 .bf16} {x9 y9 : Vec Ideal S64x196 .bf16} {x11 y11 : Vec Ideal S1x64 .i32}
    (h7 : y7 = x7) (h9 : y9 = x9) (h11 : y11 = x11) :
    wallOf y7 (View.ld y9 (Rect.unit ![0, 0] ![64, 196] (by decide))) (View.ld y11 (Rect.unit ![0, 0] ![1, 64] (by decide)))
      = wallOf x7 x9 x11 := by
  subst h7 h9 h11
  rw [View.ld_unit_zero (S := S64x196) hz2, View.ld_unit_zero (S := S1x64) hz2]

/-- At the first point the body fills the scratches and then computes its block from them. -/
theorem at_A (c : Dev nD) (t : Fin cfg0.N) (h0 : t.val % 8 = 0) :
    outsAt0 m c t.val t.isLt = (body (iblk m c 0 t) (k0_pay8 (iblk m c 1 t)) (wallOf (iblk m c 7 t) (iblk m c 9 t) (iblk m c 11 t)) mselOf
      (iblk m c 3 t) (iblk m c 4 t) (iblk m c 5 t) (iblk m c 6 t) (iblk m c 8 t) (iblk m c 10 t),
      k0_pay8 (iblk m c 1 t), wallOf (iblk m c 7 t) (iblk m c 9 t) (iblk m c 11 t), mselOf) := by
  rw [outsAt0_A m c t h0]
  refine Prod.ext ?_ (Prod.ext ?_ (Prod.ext ?_ ?_)) <;> dsimp only
  · unfold body base0 base1 base2 pool sacc mselOf k0_pay8
    frame_out
    rw [← wall_read ((hs0_7 t).read_unread (Val := Elt Ideal) (iblk m c 7 t)) ((hs0_9 t).read_unread (Val := Elt Ideal) (iblk m c 9 t))
      ((hs0_11 t).read_unread (Val := Elt Ideal) (iblk m c 11 t))]
    rfl
  · frame_out
  · frame_out
    rw [← wall_read ((hs0_7 t).read_unread (Val := Elt Ideal) (iblk m c 7 t)) ((hs0_9 t).read_unread (Val := Elt Ideal) (iblk m c 9 t))
      ((hs0_11 t).read_unread (Val := Elt Ideal) (iblk m c 11 t))]
    rfl
  · frame_out
    rfl

theorem at_B (c : Dev nD) (t : Fin cfg0.N) (h0 : ¬ t.val % 8 = 0) (a wf wall ms)
    (hp : outsAt0 m c (t.val - 1) (by omega) = (a, wf, wall, ms)) :
    outsAt0 m c t.val t.isLt = (body (iblk m c 0 t) wf wall ms (iblk m c 3 t) (iblk m c 4 t) (iblk m c 5 t) (iblk m c 6 t)
      (iblk m c 8 t) (iblk m c 10 t), wf, wall, ms) := by
  rw [outsAt0_B m c t h0, hp]
  refine Prod.ext ?_ rfl
  dsimp only
  frame_out
  simp only [read_unread_whole]
  rfl

end Cert.KernelIdeal.Out
end
end
-- ==== Proof.KernelArr.lean ====
/-
  What the kernel's blocks hold, read off the arguments: every block but the images' is a whole array, the same at every
  grid point; the images are cut into blocks of 32.
-/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Arr

open Idealize.ShloMosaic Idealize.ShloMosaic.TcCoe Idealize.SL.Sem Cert.KernelIdeal Cert.KernelIdeal.Gen Idealize.ShloMosaic.Pointwise

variable (m : (ℓ : Loc nD τ sig) → Buf (Elt Ideal) ℓ)

/-- Where every block lies in its array. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] :=
  (by decide +kernel : ∀ t : Fin grid0.N, _)

theorem tlt (t : Fin cfg0.N) : t.val < 8 := lt_of_lt_of_eq t.isLt N_0

theorem blk0 (c : Dev nD) (t : Fin cfg0.N) (r : Fin 32) (p : Fin 196) (k : Fin 192) :
    (iblk m c 0 t : Vec Ideal S32x196x192 .f32) (ix3 r p k)
      = (m ((c : Thread nD τ).loc main_arg0) : Vec Ideal S256x14x14x192 .f32)
        (ix4 (⟨32 * t.val + r.val, by have := tlt t; omega⟩ : Fin 256) (⟨p.val / 14, by omega⟩ : Fin 14) (⟨p.val % 14, by omega⟩ : Fin 14) k) := by
  have := tlt t
  blk_simp [iblk, idx t]
  entry_read
  pointwise
  blk_ext [iblk, V, idx t]

theorem blk1 (c : Dev nD) (t : Fin cfg0.N) :
    (iblk m c 1 t : Vec Ideal S192x384 .f32) = (m ((c : Thread nD τ).loc main_arg1) : Vec Ideal S192x384 .f32) := by
  blk_ext! [iblk, V, idx t]

theorem blk3 (c : Dev nD) (t : Fin cfg0.N) :
    (iblk m c 3 t : Vec Ideal S384x256 .f32) = (m ((c : Thread nD τ).loc main_arg3) : Vec Ideal S384x256 .f32) := by
  blk_ext! [iblk, V, idx t]

theorem blk4 (c : Dev nD) (t : Fin cfg0.N) (q : Fin 256) :
    (iblk m c 4 t : Vec Ideal S1x256 .f32) (ix2 0 q) = (m ((c : Thread nD τ).loc main_arg4) : Vec Ideal S256 .f32) (ix1 q) := by
  blk_simp [iblk, idx t]
  entry_read
  pointwise
  blk_ext [iblk, V, idx t]

theorem blk5 (c : Dev nD) (t : Fin cfg0.N) :
    (iblk m c 5 t : Vec Ideal S256x1 .f32) = (m ((c : Thread nD τ).loc main_arg5) : Vec Ideal S256x1 .f32) := by
  blk_ext! [iblk, V, idx t]

theorem blk6 (c : Dev nD) (t : Fin cfg0.N) :
    (iblk m c 6 t : Vec Ideal S1x1 .f32) (ix2 0 0) = (m ((c : Thread nD τ).loc main_arg6) : Vec Ideal S1 .f32) (ix1 0) := by
  blk_simp [iblk, idx t]
  entry_read
  pointwise
  blk_ext [iblk, V, idx t]

theorem blk7 (c : Dev nD) (t : Fin cfg0.N) (ch : Fin 384) (q : Fin 588) :
    (iblk m c 7 t : Vec Ideal S384x588 .bf16) (ix2 ch q)
      = (m ((c : Thread nD τ).loc main_arg7) : Vec Ideal S75264x3 .f32)
        (ix2 (⟨384 * (q.val / 3) + ch.val, by omega⟩ : Fin 75264) (⟨q.val % 3, by omega⟩ : Fin 3)) := by
  blk_simp [iblk, idx t]
  entry_read
  pointwise
  blk_ext [iblk, V, idx t]

theorem blk8 (c : Dev nD) (t : Fin cfg0.N) (d : Fin 3) :
    (iblk m c 8 t : Vec Ideal S1x3 .f32) (ix2 0 d) = (m ((c : Thread nD τ).loc main_arg8) : Vec Ideal S3 .f32) (ix1 d) := by
  blk_simp [iblk, idx t]
  entry_read
  pointwise
  blk_ext [iblk, V, idx t]

theorem blk9 (c : Dev nD) (t : Fin cfg0.N) (s : Fin 64) (p : Fin 196) :
    (iblk m c 9 t : Vec Ideal S64x196 .bf16) (ix2 s p)
      = (m ((c : Thread nD τ).loc main_arg9) : Vec Ideal S12544x1 .f32) (ix2 (⟨64 * p.val + s.val, by omega⟩ : Fin 12544) (0 : Fin 1)) := by
  blk_simp [iblk, idx t]
  entry_read
  pointwise
  blk_ext [iblk, V, idx t]

theorem blk10 (c : Dev nD) (t : Fin cfg0.N) :
    (iblk m c 10 t : Vec Ideal S1x1 .f32) (ix2 0 0) = (m ((c : Thread nD τ).loc main_arg10) : Vec Ideal S1 .f32) (ix1 0) := by
  blk_simp [iblk, idx t]
  entry_read
  pointwise
  blk_ext [iblk, V, idx t]

theorem blk11 (c : Dev nD) (t : Fin cfg0.N) (s : Fin 64) :
    (iblk m c 11 t : Vec Ideal S1x64 .i32) (ix2 0 s) = (m ((c : Thread nD τ).loc main_arg11) : Vec Ideal S64 .i32) (ix1 s) := by
  blk_simp [iblk, idx t]
  entry_read
  pointwise
  blk_ext [iblk, V, idx t]

end Cert.KernelIdeal.Arr
end
end
-- ==== Proof.KernelRun.lean ====
/-
  What the result array holds after the run: at every index, what the body computes from its own block of images and
  from the scratches filled at the first grid point.
-/
module

public import proofs.«01_k».proof.Proof.KernelOut
public import proofs.«01_k».proof.Proof.KernelArr

@[expose] public section

set_option maxRecDepth 16384

noncomputable section

namespace Cert.KernelIdeal.Out

open Idealize.ShloMosaic Idealize.ShloMosaic.TcCoe Idealize.SL.Sem Cert.KernelIdeal Cert.KernelIdeal.Gen Idealize.ShloMosaic.Pointwise

variable (m : (ℓ : Loc nD τ sig) → Buf (Elt Ideal) ℓ)

/-- The first grid point. -/
def first : Fin cfg0.N := ⟨0, lt_of_lt_of_eq (by decide) N_0.symm⟩

/-- The feature weights and the laid-out head weights, as the scratches hold them. -/
def wf (c : Dev nD) : Vec Ideal S192x384 .bf16 := k0_pay8 (iblk m c 1 first)
def wall (c : Dev nD) : Vec Ideal S384x784 .bf16 := wallOf (iblk m c 7 first) (iblk m c 9 first) (iblk m c 11 first)

/-- What point `t` leaves in its output block. -/
def outBlk (c : Dev nD) (t : Fin cfg0.N) : FVec Ideal S32x3 .f32 :=
  body (iblk m c 0 t) (wf m c) (wall m c) mselOf (iblk m c 3 t) (iblk m c 4 t) (iblk m c 5 t) (iblk m c 6 t) (iblk m c 8 t) (iblk m c 10 t)

theorem outs_eq (c : Dev nD) : ∀ (n : ℕ) (h : n < cfg0.N), outsAt0 m c n h = (outBlk m c ⟨n, h⟩, wf m c, wall m c, mselOf)
  | 0, h => at_A m c ⟨0, h⟩ rfl
  | n + 1, h => by
    have hN : cfg0.N = 8 := N_0
    have hB : ¬(⟨n + 1, h⟩ : Fin cfg0.N).val % 8 = 0 := by dsimp only; omega
    exact at_B m c ⟨n + 1, h⟩ hB _ _ _ _ (outs_eq c n (by omega))

/-- The result array after the run. -/
theorem G12_eq (c : Dev nD) (b : Fin 256) (d : Fin 3) :
    Value.G12 m c (ix2 b d) = outBlk m c ⟨b.val / 32, by rw [show cfg0.N = 8 from N_0]; omega⟩ (ix2 (⟨b.val % 32, by omega⟩ : Fin 32) d) := by
  have hN : cfg0.N = 8 := N_0
  have hp : Value.pt12Of (ix2 b d) = b.val / 32 := by
    show 1 * (b.val / 32 - 0) + 1 * (d.val / 3 - 0) = _
    omega
  have hl : Value.loc12Of (ix2 b d) = ix2 (⟨b.val % 32, by omega⟩ : Fin 32) d := by
    blk_ext
  unfold Value.G12
  have hlt : b.val / 32 < cfg0.N := by omega
  rw [dif_pos (by rw [hp]; exact hlt), hl, Value.fold0_congr m c _ _ _ (by omega : 0 + b.val / 32 < cfg0.N) hp,
    ← Value.outsAt0_sweep m c _ hlt, outs_eq m c _ hlt]

end Cert.KernelIdeal.Out
end
end
-- ==== Proof.KernelBlock.lean ====
/-
  What the body computes from one block of images, read at an index: the features, the masked products gathered per
  image, and the match score.
-/
module

public import proofs.«01_k».proof.Proof.KernelOut
public import Idealize.ShloMosaic.Lib.Pointwise

@[expose] public section

set_option maxRecDepth 16384

noncomputable section

namespace Cert.KernelIdeal.Out

open Idealize.ShloMosaic Idealize.ShloMosaic.TcCoe Idealize.SL.Sem Cert.KernelIdeal Cert.KernelIdeal.Gen Idealize.ShloMosaic.Pointwise

/-- The feature of image `r` of a block, at position `p` and channel `c`. -/
def feat (x : Vec Ideal S32x196x192 .f32) (wf : Vec Ideal S192x384 .bf16) (r : Fin 32) (p : Fin 196) (c : Fin 384) : EReal :=
  max (∑ k : Fin 192, x (ix3 r p k) * wf (ix2 k c)) 0

variable (x : Vec Ideal S32x196x192 .f32) (wf : Vec Ideal S192x384 .bf16) (wall : Vec Ideal S384x784 .bf16)

/-- Row `r * 28 + t` of a chunk's products belongs to image `r`. -/
abbrev row (r : Fin 32) (t : Fin 28) : Fin 896 := ⟨r.val * 28 + t.val, by omega⟩

/-- A chunk's position `b` is position `o + b` of the block. -/
theorem ld_at (o : ℕ) (inb) (a : Fin 32) (b : Fin 28) (k : Fin 192) (h : o + b.val < 196) :
    View.ld x (Rect.unit ![0, o, 0] ![32, 28, 192] inb) (ix3 a b k) = x (ix3 a ⟨o + b.val, h⟩ k) := by
  refine congrArg x (funext fun e => Fin.ext ?_)
  match e with
  | ⟨0, _⟩ => show 0 + 1 * a.val = a.val; omega
  | ⟨1, _⟩ => show o + 1 * b.val = o + b.val; omega
  | ⟨2, _⟩ => show 0 + 1 * k.val = k.val; omega

theorem row_div (r : Fin 32) (t : Fin 28) : (r.val * 28 + t.val) / 28 = r.val := by omega
theorem row_mod (r : Fin 32) (t : Fin 28) : (r.val * 28 + t.val) % 28 = t.val := by omega

theorem f0_at (r : Fin 32) (t : Fin 28) (c : Fin 384) :
    k0_pay9 wf (ch0 x) (ix2 (row r t) c) = feat x wf r ⟨28 * 0 + t.val, by omega⟩ c := by
  pointwise [k0_pay9, feat]
  simp only [row_div, row_mod]
  exact congrArg (max · 0) (Finset.sum_congr rfl fun k _ => congrArg (· * _) ((ld_at x 0 _ r t k (by omega)).trans (congrArg (fun p => x (ix3 r p k)) (Fin.ext (by simp)))))
theorem f1_at (r : Fin 32) (t : Fin 28) (c : Fin 384) :
    k0_pay10 wf (ch1 x) (ix2 (row r t) c) = feat x wf r ⟨28 * 1 + t.val, by omega⟩ c := by
  pointwise [k0_pay10, feat]
  simp only [row_div, row_mod]
  exact congrArg (max · 0) (Finset.sum_congr rfl fun k _ => congrArg (· * _) (ld_at x 28 _ r t k (by omega)))
theorem f2_at (r : Fin 32) (t : Fin 28) (c : Fin 384) :
    k0_pay14 wf (k0_pay13 (ch2 x)) (ix2 (row r t) c) = feat x wf r ⟨28 * 2 + t.val, by omega⟩ c := by
  pointwise [k0_pay14, k0_pay13, feat]
  simp only [row_div, row_mod]
  exact congrArg (max · 0) (Finset.sum_congr rfl fun k _ => congrArg (· * _) (ld_at x 56 _ r t k (by omega)))
theorem f3_at (r : Fin 32) (t : Fin 28) (c : Fin 384) :
    k0_pay15 wf (ch3 x) (ix2 (row r t) c) = feat x wf r ⟨28 * 3 + t.val, by omega⟩ c := by
  pointwise [k0_pay15, feat]
  simp only [row_div, row_mod]
  exact congrArg (max · 0) (Finset.sum_congr rfl fun k _ => congrArg (· * _) (ld_at x 84 _ r t k (by omega)))
theorem f4_at (r : Fin 32) (t : Fin 28) (c : Fin 384) :
    k0_pay16 wf (ch4 x) (ix2 (row r t) c) = feat x wf r ⟨28 * 4 + t.val, by omega⟩ c := by
  pointwise [k0_pay16, feat]
  simp only [row_div, row_mod]
  exact congrArg (max · 0) (Finset.sum_congr rfl fun k _ => congrArg (· * _) (ld_at x 112 _ r t k (by omega)))
theorem f5_at (r : Fin 32) (t : Fin 28) (c : Fin 384) :
    k0_pay18 wf (ch5 x) (ix2 (row r t) c) = feat x wf r ⟨28 * 5 + t.val, by omega⟩ c := by
  pointwise [k0_pay18, feat]
  simp only [row_div, row_mod]
  exact congrArg (max · 0) (Finset.sum_congr rfl fun k _ => congrArg (· * _) (ld_at x 140 _ r t k (by omega)))
theorem f6_at (r : Fin 32) (t : Fin 28) (c : Fin 384) :
    k0_pay20 wf (ch6 x) (ix2 (row r t) c) = feat x wf r ⟨28 * 6 + t.val, by omega⟩ c := by
  pointwise [k0_pay20, feat]
  simp only [row_div, row_mod]
  exact congrArg (max · 0) (Finset.sum_congr rfl fun k _ => congrArg (· * _) (ld_at x 168 _ r t k (by omega)))

theorem sacc_at (ms : Vec Ideal S896x112 .f32) (r : Fin 32) (q : Fin 112) :
    sacc x wf wall ms (ix2 r q) = ∑ t : Fin 28, (∑ j : Fin 7, ∑ c : Fin 384,
      feat x wf r ⟨28 * j.val + t.val, by omega⟩ c * wall (ix2 c (⟨112 * j.val + q.val, by omega⟩ : Fin 784))) * ms (ix2 (row r t) q) := by
  pointwise [sacc, k0_pay21, k0_pay17, k0_pay12]
  refine Finset.sum_congr rfl fun t _ => ?_
  simp only [f0_at, f1_at, f2_at, f3_at, f4_at, f5_at, f6_at, Fin.sum_univ_seven, Fin.isValue, Fin.coe_ofNat_eq_mod, Nat.reduceMod, Nat.reduceMul, Nat.zero_add]

theorem pool_at (x3 : Vec Ideal S384x256 .f32) (x4 : Vec Ideal S1x256 .f32) (x5 : Vec Ideal S256x1 .f32) (r : Fin 32) :
    pool x wf x3 x4 x5 (ix2 r (0 : Fin 1)) = ∑ o : Fin 256, Ideal.tanh ((∑ c : Fin 384,
      (∑ t : Fin 28, ∑ j : Fin 7, feat x wf r ⟨28 * j.val + t.val, by omega⟩ c) * ((1 / 196 : ℝ) : EReal) * x3 (ix2 c o)) + x4 (ix2 (0 : Fin 1) o))
      * x5 (ix2 o (0 : Fin 1)) := by
  pointwise [pool, k0_pay22, k0_pay19, k0_pay11]
  rw [show (Named.named κ "inv_hw" 1000812293#32 : Ideal .f32) = ((1 / 196 : ℝ) : EReal) from
    IdealRules.named_const.ideal_named_scalar _ _ _ _ rfl]
  simp only [f0_at, f1_at, f2_at, f3_at, f4_at, f5_at, f6_at, Fin.sum_univ_seven, Fin.isValue, Fin.coe_ofNat_eq_mod, Nat.reduceMod, Nat.reduceMul, Nat.zero_add]

end Cert.KernelIdeal.Out
end
end
-- ==== Proof.Sums.lean ====
/-
  Finite sums over the extended reals, regrouped.

  The kernel cuts the 196 positions of the picture into 7 chunks of 28, multiplies each chunk by one wide matrix whose
  112 columns hold, for each of the 28 positions of a chunk, three columns of the base predictor (columns `3 t + d`) and
  one of the pattern predictor (column `84 + t`), and then keeps, by 0/1 masks, only the columns that belong to the
  row's own position. Here this is shown to be the plain sum over positions and channels. Only commutativity and
  associativity of addition and `x * 1 = x`, `x * 0 = 0` are used, so the values may be infinite.
-/
module

public import Mathlib.Data.EReal.Operations
public import Mathlib.Algebra.BigOperators.Fin
public import Mathlib.Algebra.BigOperators.Ring.Finset
public import Mathlib.Logic.Equiv.Fin.Basic

@[expose] public section

namespace Cert.Sums

/-- A sum over `m * n` places is a sum over `m` groups of `n` places each. -/
theorem sum_groups {N : ℕ} (m n : ℕ) (hN : N = m * n) (g : Fin N → EReal) :
    ∑ k : Fin N, g k
      = ∑ a : Fin m, ∑ b : Fin n, g ⟨n * a.val + b.val, by
          have ha := a.isLt; have hb := b.isLt
          calc n * a.val + b.val < n * a.val + n := by omega
            _ = n * (a.val + 1) := by ring
            _ ≤ n * m := Nat.mul_le_mul_left n ha
            _ = N := by rw [hN, Nat.mul_comm]⟩ := by
  subst hN
  rw [← Equiv.sum_comp finProdFinEquiv, Fintype.sum_prod_type]
  refine Finset.sum_congr rfl fun a _ => Finset.sum_congr rfl fun b _ => congrArg g (Fin.ext ?_)
  show b.val + n * a.val = n * a.val + b.val
  omega

/-- The position inside a chunk to which column `q` of the wide matrix belongs. -/
def posOf (q : Fin 112) : ℕ := if q.val < 84 then q.val / 3 else q.val - 84

theorem posOf_lt (q : Fin 112) : posOf q < 28 := by
  have := q.isLt
  unfold posOf; split <;> omega

/-- Keeping the rows whose position is the column's own leaves one row. -/
theorem sum_own (Y M : Fin 28 → Fin 112 → EReal)
    (hM : ∀ t q, M t q = if posOf q = t.val then 1 else 0) (q : Fin 112) :
    ∑ t : Fin 28, Y t q * M t q = Y ⟨posOf q, posOf_lt q⟩ q := by
  rw [Finset.sum_eq_single (⟨posOf q, posOf_lt q⟩ : Fin 28)]
  · rw [hM, if_pos rfl, mul_one]
  · intro t _ ht
    rw [hM, if_neg (fun h => ht (Fin.ext h.symm)), mul_zero]
  · exact fun h => absurd (Finset.mem_univ _) h

/-- The masked sum over columns is the sum over the images of an injection that the mask selects. -/
theorem sum_mask (S : Fin 112 → EReal) (mk : Fin 112 → EReal) (P : Fin 112 → Prop) [DecidablePred P]
    (hmk : ∀ q, mk q = if P q then 1 else 0)
    (col : Fin 28 → Fin 112) (hcol : ∀ t, P (col t)) (hpos : ∀ t, posOf (col t) = t.val)
    (hinv : ∀ q, P q → col ⟨posOf q, posOf_lt q⟩ = q) :
    ∑ q : Fin 112, S q * mk q = ∑ t : Fin 28, S (col t) := by
  have h1 : ∀ q, S q * mk q = if P q then S q else 0 := fun q => by
    rw [hmk]; split <;> simp
  simp only [h1]
  rw [← Finset.sum_filter]
  refine Finset.sum_bij' (fun q _ => (⟨posOf q, posOf_lt q⟩ : Fin 28)) (fun t _ => col t)
    (fun _ _ => Finset.mem_univ _) (fun t _ => Finset.mem_filter.mpr ⟨Finset.mem_univ _, hcol t⟩)
    (fun q hq => hinv q (Finset.mem_filter.mp hq).2) (fun t _ => Fin.ext (hpos t)) (fun q hq => ?_)
  exact congrArg S (hinv q (Finset.mem_filter.mp hq).2).symm

/-- Chunks outside, positions inside, is every position once. -/
theorem sum_chunks (g : Fin 196 → EReal) :
    ∑ t : Fin 28, ∑ j : Fin 7, g ⟨28 * j.val + t.val, by omega⟩ = ∑ p : Fin 196, g p := by
  rw [sum_groups 7 28 rfl g, Finset.sum_comm]

/-- THE BASE PREDICTOR: column sums kept by the mask `q < 84 ∧ q % 3 = d` are the full sum over positions and channels. -/
theorem base_sum (f : Fin 196 → Fin 384 → EReal) (wall : Fin 384 → Fin 784 → EReal)
    (W : Fin 196 → Fin 384 → EReal) (d : Fin 3)
    (hwall : ∀ (c : Fin 384) (j : Fin 7) (t : Fin 28),
      wall c ⟨112 * j.val + (3 * t.val + d.val), by omega⟩ = W ⟨28 * j.val + t.val, by omega⟩ c)
    (Y M : Fin 28 → Fin 112 → EReal)
    (hY : ∀ t q, Y t q = ∑ j : Fin 7, ∑ c : Fin 384, f ⟨28 * j.val + t.val, by omega⟩ c * wall c ⟨112 * j.val + q.val, by omega⟩)
    (hM : ∀ t q, M t q = if posOf q = t.val then 1 else 0)
    (mk : Fin 112 → EReal) (hmk : ∀ q, mk q = if q.val < 84 ∧ q.val % 3 = d.val then 1 else 0) :
    ∑ q : Fin 112, (∑ t : Fin 28, Y t q * M t q) * mk q = ∑ p : Fin 196, ∑ c : Fin 384, f p c * W p c := by
  rw [sum_mask _ mk (fun q => q.val < 84 ∧ q.val % 3 = d.val) hmk (fun t => ⟨3 * t.val + d.val, by omega⟩)]
  · rw [← sum_chunks]
    refine Finset.sum_congr rfl fun t _ => ?_
    rw [sum_own Y M hM, hY]
    have hp : posOf ⟨3 * t.val + d.val, by omega⟩ = t.val := by
      unfold posOf; rw [if_pos (by show 3 * t.val + d.val < 84; omega)]; show (3 * t.val + d.val) / 3 = _; omega
    refine Finset.sum_congr rfl fun j _ => Finset.sum_congr rfl fun c _ => ?_
    rw [hwall c j t]
    refine congrArg (fun p => f p c * W _ c) (Fin.ext ?_)
    show 28 * j.val + posOf _ = _
    rw [hp]
  · intro t; show 3 * t.val + d.val < 84 ∧ (3 * t.val + d.val) % 3 = d.val; omega
  · intro t; unfold posOf; rw [if_pos (by show 3 * t.val + d.val < 84; omega)]; show (3 * t.val + d.val) / 3 = _; omega
  · rintro q ⟨h1, h2⟩
    apply Fin.ext
    show 3 * posOf q + d.val = q.val
    unfold posOf; rw [if_pos h1]; omega

/-- THE PATTERN PREDICTOR: column sums kept by the mask `84 ≤ q` are the full sum over positions and channels. -/
theorem pat_sum (f : Fin 196 → Fin 384 → EReal) (wall : Fin 384 → Fin 784 → EReal)
    (W : Fin 196 → Fin 384 → EReal)
    (hwall : ∀ (c : Fin 384) (j : Fin 7) (t : Fin 28),
      wall c ⟨112 * j.val + (84 + t.val), by omega⟩ = W ⟨28 * j.val + t.val, by omega⟩ c)
    (Y M : Fin 28 → Fin 112 → EReal)
    (hY : ∀ t q, Y t q = ∑ j : Fin 7, ∑ c : Fin 384, f ⟨28 * j.val + t.val, by omega⟩ c * wall c ⟨112 * j.val + q.val, by omega⟩)
    (hM : ∀ t q, M t q = if posOf q = t.val then 1 else 0)
    (mk : Fin 112 → EReal) (hmk : ∀ q, mk q = if 84 ≤ q.val then 1 else 0) :
    ∑ q : Fin 112, (∑ t : Fin 28, Y t q * M t q) * mk q = ∑ p : Fin 196, ∑ c : Fin 384, f p c * W p c := by
  rw [sum_mask _ mk (fun q => 84 ≤ q.val) hmk (fun t => ⟨84 + t.val, by omega⟩)]
  · rw [← sum_chunks]
    refine Finset.sum_congr rfl fun t _ => ?_
    rw [sum_own Y M hM, hY]
    have hp : posOf ⟨84 + t.val, by omega⟩ = t.val := by
      unfold posOf; rw [if_neg (by show ¬ 84 + t.val < 84; omega)]; show 84 + t.val - 84 = _; omega
    refine Finset.sum_congr rfl fun j _ => Finset.sum_congr rfl fun c _ => ?_
    rw [hwall c j t]
    refine congrArg (fun p => f p c * W _ c) (Fin.ext ?_)
    show 28 * j.val + posOf _ = _
    rw [hp]
  · intro t; show 84 ≤ 84 + t.val; omega
  · intro t; unfold posOf; rw [if_neg (by show ¬ 84 + t.val < 84; omega)]; show 84 + t.val - 84 = _; omega
  · intro q h
    apply Fin.ext
    show 84 + posOf q = q.val
    unfold posOf; rw [if_neg (by omega)]; omega

/-- Gathering channels at distinct places is multiplying by a 0/1 matrix: where no two of the places `s p` agree, at
    most one `p` meets each channel, so the product may be taken before or after the sum over `p`. -/
theorem gather_sum (f : Fin 384 → EReal) (w : Fin 64 → EReal) (s : Fin 64 → Fin 384) (hs : Function.Injective s) :
    ∑ c : Fin 384, f c * (∑ p : Fin 64, (if c = s p then 1 else 0) * w p) = ∑ p : Fin 64, f (s p) * w p := by
  have h : ∀ c, f c * (∑ p : Fin 64, (if c = s p then 1 else 0) * w p) = ∑ p : Fin 64, if c = s p then f c * w p else 0 := by
    intro c
    by_cases hc : ∃ p, c = s p
    · obtain ⟨p, rfl⟩ := hc
      rw [Finset.sum_eq_single p, Finset.sum_eq_single p]
      · rw [if_pos rfl, if_pos rfl, one_mul]
      · intro q _ hq; rw [if_neg fun h => hq (hs h).symm]
      · exact fun h => absurd (Finset.mem_univ _) h
      · intro q _ hq; rw [if_neg fun h => hq (hs h).symm, zero_mul]
      · exact fun h => absurd (Finset.mem_univ _) h
    · have hn : ∀ p, ¬ c = s p := fun p hp => hc ⟨p, hp⟩
      rw [Finset.sum_eq_zero (fun p _ => by rw [if_neg (hn p), zero_mul]), mul_zero,
        Finset.sum_eq_zero (fun p _ => if_neg (hn p))]
  simp only [h]
  rw [Finset.sum_comm]
  refine Finset.sum_congr rfl fun p _ => ?_
  rw [Finset.sum_eq_single (s p)]
  · rw [if_pos rfl]
  · intro c _ hc; rw [if_neg hc]
  · exact fun h => absurd (Finset.mem_univ _) h

end Cert.Sums

end
-- ==== Proof.KernelMask.lean ====
/-
  The masks of the body, read at an index: the one that keeps each row's own columns, and the ones that pick the columns
  of each head.
-/
module

public import proofs.«01_k».proof.Proof.KernelOut
public import proofs.«01_k».proof.Proof.KernelBlock
public import proofs.«01_k».proof.Proof.Sums
public import Idealize.ShloMosaic.Lib.Pointwise

@[expose] public section

set_option maxRecDepth 16384

noncomputable section

namespace Cert.KernelIdeal.Out

open Idealize.ShloMosaic Idealize.ShloMosaic.TcCoe Idealize.SL.Sem Cert.KernelIdeal Cert.KernelIdeal.Gen Idealize.ShloMosaic.Pointwise

/-- The number of a row within its image, as the body computes it from the row's word. -/
def modWord28 (w : BitVec 32) : BitVec 32 :=
  Scalar.select
    (IntOp.andi
      (IntOp.xori (IntOp.cmpi CmpIPredicate.slt (IntOp.remsi ArithUnit.vector w (Scalar.select (Scalar.cmpi CmpIPredicate.eq 28#32 0#32) 1#32 28#32)) 0#32)
        (Scalar.cmpi CmpIPredicate.slt (Scalar.select (Scalar.cmpi CmpIPredicate.eq 28#32 0#32) 1#32 28#32) 0#32))
      (IntOp.cmpi CmpIPredicate.ne (IntOp.remsi ArithUnit.vector w (Scalar.select (Scalar.cmpi CmpIPredicate.eq 28#32 0#32) 1#32 28#32)) 0#32))
    (IntOp.addi (IntOp.remsi ArithUnit.vector w (Scalar.select (Scalar.cmpi CmpIPredicate.eq 28#32 0#32) 1#32 28#32)) (Scalar.select (Scalar.cmpi CmpIPredicate.eq 28#32 0#32) 1#32 28#32))
    (IntOp.remsi ArithUnit.vector w (Scalar.select (Scalar.cmpi CmpIPredicate.eq 28#32 0#32) 1#32 28#32))

/-- The remainder of a column's number by three, as the body computes it. -/
def modWord3 (w : BitVec 32) : BitVec 32 :=
  Scalar.select
    (IntOp.andi
      (IntOp.xori (IntOp.cmpi CmpIPredicate.slt (IntOp.remsi ArithUnit.vector w (Scalar.select (Scalar.cmpi CmpIPredicate.eq 3#32 0#32) 1#32 3#32)) 0#32)
        (Scalar.cmpi CmpIPredicate.slt (Scalar.select (Scalar.cmpi CmpIPredicate.eq 3#32 0#32) 1#32 3#32) 0#32))
      (IntOp.cmpi CmpIPredicate.ne (IntOp.remsi ArithUnit.vector w (Scalar.select (Scalar.cmpi CmpIPredicate.eq 3#32 0#32) 1#32 3#32)) 0#32))
    (IntOp.addi (IntOp.remsi ArithUnit.vector w (Scalar.select (Scalar.cmpi CmpIPredicate.eq 3#32 0#32) 1#32 3#32)) (Scalar.select (Scalar.cmpi CmpIPredicate.eq 3#32 0#32) 1#32 3#32))
    (IntOp.remsi ArithUnit.vector w (Scalar.select (Scalar.cmpi CmpIPredicate.eq 3#32 0#32) 1#32 3#32))

/-- The position a column belongs to, as the body computes it from the column's word. -/
def posWord (w : BitVec 32) : BitVec 32 :=
  Scalar.select (IntOp.cmpi CmpIPredicate.slt w 84#32)
    (Scalar.select
      (IntOp.andi
        (IntOp.cmpi CmpIPredicate.ne
          (IntOp.subi (BitVec.setWidth 32 (IntOp.cmpi CmpIPredicate.sgt w 0#32))
            (BitVec.setWidth 32 (IntOp.cmpi CmpIPredicate.slt w 0#32)))
          (Scalar.subi (Scalar.extui (Scalar.cmpi CmpIPredicate.sgt 3#32 0#32))
            (Scalar.extui (Scalar.cmpi CmpIPredicate.slt 3#32 0#32))))
        (IntOp.cmpi CmpIPredicate.ne (IntOp.remsi ArithUnit.vector w 3#32) 0#32))
      (IntOp.subi (IntOp.divsi ArithUnit.vector w 3#32) 1#32)
      (IntOp.divsi ArithUnit.vector w 3#32))
    (IntOp.subi w 84#32)

theorem modWord28_eq : ∀ i : Fin 896, modWord28 (BitVec.ofNat 32 i.val) = BitVec.ofNat 32 (i.val % 28) := by decide +kernel
theorem modWord3_eq : ∀ q : Fin 112, modWord3 (BitVec.ofNat 32 q.val) = BitVec.ofNat 32 (q.val % 3) := by decide +kernel
theorem posWord_eq : ∀ q : Fin 112, posWord (BitVec.ofNat 32 q.val) = BitVec.ofNat 32 (Cert.Sums.posOf q) := by decide +kernel

/-- A truth value as a number. -/
theorem bit_at (b : BitVec 1) : (FloatOps.sitofp .f32 (BitVec.setWidth 32 b) : Ideal .f32) = if b = 1#1 then (1 : EReal) else 0 := by
  have h : b = 0#1 ∨ b = 1#1 := by revert b; decide
  rcases h with rfl | rfl
  · show (((BitVec.setWidth 32 0#1).toInt : ℝ) : EReal) = _
    simp
  · show (((BitVec.setWidth 32 1#1).toInt : ℝ) : EReal) = _
    simp

theorem msel_at (r : Fin 32) (t : Fin 28) (q : Fin 112) :
    mselOf (ix2 (row r t) q) = if Cert.Sums.posOf q = t.val then 1 else 0 := by
  pointwise [mselOf, k0_pay7, k0_pay3, k0_pay4, k0_pay5, k0_pay6]
  refine (bit_at (IntOp.cmpi CmpIPredicate.eq (posWord (BitVec.ofNat 32 q.val)) (modWord28 (BitVec.ofNat 32 (row r t).val)))).trans ?_
  rw [posWord_eq, modWord28_eq, row_mod]
  have := Cert.Sums.posOf_lt q
  exact if_congr (WordCmp.cmpi_eq_ofNat_eq_one_iff (by omega) (by omega)) rfl rfl

/-- The mask of the columns of base head `d`. -/
def headMask (d : Fin 3) (q : Fin 112) : EReal := if q.val < 84 ∧ q.val % 3 = d.val then 1 else 0

/-- The mask of the columns of the pattern head. -/
def patMask (q : Fin 112) : EReal := if 84 ≤ q.val then 1 else 0

/-- Whether a column belongs to base head `d`, as the body computes it from the column's word. -/
def headWord (d w : BitVec 32) : BitVec 1 :=
  IntOp.andi (IntOp.cmpi CmpIPredicate.slt w 84#32) (IntOp.cmpi CmpIPredicate.eq (modWord3 w) d)

theorem headWord_eq : ∀ (d : Fin 3) (q : Fin 112), headWord (BitVec.ofNat 32 d.val) (BitVec.ofNat 32 q.val) = 1#1 ↔ q.val < 84 ∧ q.val % 3 = d.val := by
  decide +kernel

theorem patWord_eq : ∀ q : Fin 112, IntOp.cmpi CmpIPredicate.sge (BitVec.ofNat 32 q.val) 84#32 = 1#1 ↔ 84 ≤ q.val := by decide +kernel

theorem head_at (d : Fin 3) (q : Fin 112) :
    (FloatOps.sitofp .f32 (BitVec.setWidth 32 (headWord (BitVec.ofNat 32 d.val) (BitVec.ofNat 32 q.val))) : Ideal .f32) = headMask d q :=
  (bit_at _).trans (if_congr (headWord_eq d q) rfl rfl)

variable (s : FVec Ideal S32x112 .f32)

theorem base0_at (r : Fin 32) : base0 s (ix2 r (0 : Fin 1)) = ∑ q : Fin 112, s (ix2 r q) * headMask 0 q := by
  pointwise [base0, k0_pay24]
  exact Finset.sum_congr rfl fun q _ => congrArg (s (ix2 r q) * ·) (head_at 0 q)

theorem base1_at (r : Fin 32) : base1 s (ix2 r (0 : Fin 1)) = ∑ q : Fin 112, s (ix2 r q) * headMask 1 q := by
  pointwise [base1, k0_pay30, k0_pay25, k0_pay26, k0_pay27, k0_pay28, k0_pay29]
  exact Finset.sum_congr rfl fun q _ => congrArg (s (ix2 r q) * ·) (head_at 1 q)

theorem base2_at (r : Fin 32) : base2 s (ix2 r (0 : Fin 1)) = ∑ q : Fin 112, s (ix2 r q) * headMask 2 q := by
  pointwise [base2, k0_pay31]
  exact Finset.sum_congr rfl fun q _ => congrArg (s (ix2 r q) * ·) (head_at 2 q)

theorem pat_at (r : Fin 32) (q : Fin 112) : k0_pay32 s col112 (ix2 r q) = s (ix2 r q) * patMask q := by
  pointwise [k0_pay32]
  exact congrArg (s (ix2 r q) * ·) ((bit_at _).trans (if_congr (patWord_eq q) rfl rfl))

end Cert.KernelIdeal.Out
end
end
-- ==== Proof.KernelWall.lean ====
/-
  The weights laid out side by side, read at a column.
-/
module

public import proofs.«01_k».proof.Proof.KernelOut
public import proofs.«01_k».proof.Proof.KernelMask
public import Idealize.ShloMosaic.Lib.Pointwise
public import Idealize.ShloMosaic.Lib.Pipeline.Value

@[expose] public section

set_option maxRecDepth 16384

noncomputable section

namespace Cert.KernelIdeal.Out

open Idealize.ShloMosaic Idealize.ShloMosaic.TcCoe Idealize.SL.Sem Cert.KernelIdeal Cert.KernelIdeal.Gen Idealize.ShloMosaic.Pointwise

section
variable (a0 a1 a2 a3 a4 a5 a6 : S384x84.Idx → EReal) (p0 p1 p2 p3 p4 p5 p6 : S384x28.Idx → EReal)

/-- Seven pieces of 84 columns and seven of 28, in turn. -/
abbrev pieces : List ((s : Shape) × (s.Idx → EReal)) :=
  [⟨S384x84, a0⟩, ⟨S384x28, p0⟩, ⟨S384x84, a1⟩, ⟨S384x28, p1⟩, ⟨S384x84, a2⟩, ⟨S384x28, p2⟩, ⟨S384x84, a3⟩, ⟨S384x28, p3⟩, ⟨S384x84, a4⟩, ⟨S384x28, p4⟩, ⟨S384x84, a5⟩, ⟨S384x28, p5⟩, ⟨S384x84, a6⟩, ⟨S384x28, p6⟩]

/-- The shapes of the pieces. -/
abbrev shapes : List Shape := [S384x84, S384x28, S384x84, S384x28, S384x84, S384x28, S384x84, S384x28, S384x84, S384x28, S384x84, S384x28, S384x84, S384x28]

/-- The columns before piece `k` depend on the shapes alone. -/
theorem before (k : ℕ) :
    ((((pieces a0 a1 a2 a3 a4 a5 a6 p0 p1 p2 p3 p4 p5 p6).take k).map (·.1)).map fun s =>
      if h : s.rank = S384x784.rank then s.size ((1 : Fin S384x784.rank).cast h.symm) else 0).sum
    = ((shapes.take k).map fun s => if h : s.rank = S384x784.rank then s.size ((1 : Fin S384x784.rank).cast h.symm) else 0).sum := by
  rw [List.map_take]
  rfl

variable (h : Shape.Concatenates ((pieces a0 a1 a2 a3 a4 a5 a6 p0 p1 p2 p3 p4 p5 p6).map (·.1)) S384x784 1)

/-- Off the axis the pieces are joined along, the coordinates agree. -/
theorem off {w : ℕ} (c : Fin 384) (y : Fin 784) (q : Fin w) (b : Fin 2) (hb : b ≠ 1) :
    ((ix2 c q : Shape.Idx ⟨2, ![384, w]⟩) b).val = ((ix2 c y : S384x784.Idx) b).val := by
  match b with
  | 0 => rfl
  | 1 => exact absurd rfl hb

theorem cat_base (c : Fin 384) (j : Fin 7) (q : Fin 84) :
    concatenate S384x784 1 (pieces a0 a1 a2 a3 a4 a5 a6 p0 p1 p2 p3 p4 p5 p6) h (ix2 c (⟨112 * j.val + q.val, by omega⟩ : Fin 784)) = (![a0, a1, a2, a3, a4, a5, a6] : Fin 7 → S384x84.Idx → EReal) j (ix2 c q) := by
  match j with
  | 0 => exact concatenate_apply_piece 1 _ h _ 0 (Nat.lt_of_lt_of_eq (by decide : 0 < 14) rfl) S384x84 a0 rfl rfl 0 ((before a0 a1 a2 a3 a4 a5 a6 p0 p1 p2 p3 p4 p5 p6 0).trans (by decide +kernel)) (ix2 c q) (off c _ q) (by show 0 + q.val = 112 * 0 + q.val; omega)
  | 1 => exact concatenate_apply_piece 1 _ h _ 2 (Nat.lt_of_lt_of_eq (by decide : 2 < 14) rfl) S384x84 a1 rfl rfl 112 ((before a0 a1 a2 a3 a4 a5 a6 p0 p1 p2 p3 p4 p5 p6 2).trans (by decide +kernel)) (ix2 c q) (off c _ q) (by show 112 + q.val = 112 * 1 + q.val; omega)
  | 2 => exact concatenate_apply_piece 1 _ h _ 4 (Nat.lt_of_lt_of_eq (by decide : 4 < 14) rfl) S384x84 a2 rfl rfl 224 ((before a0 a1 a2 a3 a4 a5 a6 p0 p1 p2 p3 p4 p5 p6 4).trans (by decide +kernel)) (ix2 c q) (off c _ q) (by show 224 + q.val = 112 * 2 + q.val; omega)
  | 3 => exact concatenate_apply_piece 1 _ h _ 6 (Nat.lt_of_lt_of_eq (by decide : 6 < 14) rfl) S384x84 a3 rfl rfl 336 ((before a0 a1 a2 a3 a4 a5 a6 p0 p1 p2 p3 p4 p5 p6 6).trans (by decide +kernel)) (ix2 c q) (off c _ q) (by show 336 + q.val = 112 * 3 + q.val; omega)
  | 4 => exact concatenate_apply_piece 1 _ h _ 8 (Nat.lt_of_lt_of_eq (by decide : 8 < 14) rfl) S384x84 a4 rfl rfl 448 ((before a0 a1 a2 a3 a4 a5 a6 p0 p1 p2 p3 p4 p5 p6 8).trans (by decide +kernel)) (ix2 c q) (off c _ q) (by show 448 + q.val = 112 * 4 + q.val; omega)
  | 5 => exact concatenate_apply_piece 1 _ h _ 10 (Nat.lt_of_lt_of_eq (by decide : 10 < 14) rfl) S384x84 a5 rfl rfl 560 ((before a0 a1 a2 a3 a4 a5 a6 p0 p1 p2 p3 p4 p5 p6 10).trans (by decide +kernel)) (ix2 c q) (off c _ q) (by show 560 + q.val = 112 * 5 + q.val; omega)
  | 6 => exact concatenate_apply_piece 1 _ h _ 12 (Nat.lt_of_lt_of_eq (by decide : 12 < 14) rfl) S384x84 a6 rfl rfl 672 ((before a0 a1 a2 a3 a4 a5 a6 p0 p1 p2 p3 p4 p5 p6 12).trans (by decide +kernel)) (ix2 c q) (off c _ q) (by show 672 + q.val = 112 * 6 + q.val; omega)

theorem cat_pat (c : Fin 384) (j : Fin 7) (q : Fin 28) :
    concatenate S384x784 1 (pieces a0 a1 a2 a3 a4 a5 a6 p0 p1 p2 p3 p4 p5 p6) h (ix2 c (⟨112 * j.val + (84 + q.val), by omega⟩ : Fin 784)) = (![p0, p1, p2, p3, p4, p5, p6] : Fin 7 → S384x28.Idx → EReal) j (ix2 c q) := by
  match j with
  | 0 => exact concatenate_apply_piece 1 _ h _ 1 (Nat.lt_of_lt_of_eq (by decide : 1 < 14) rfl) S384x28 p0 rfl rfl 84 ((before a0 a1 a2 a3 a4 a5 a6 p0 p1 p2 p3 p4 p5 p6 1).trans (by decide +kernel)) (ix2 c q) (off c _ q) (by show 84 + q.val = 112 * 0 + (84 + q.val); omega)
  | 1 => exact concatenate_apply_piece 1 _ h _ 3 (Nat.lt_of_lt_of_eq (by decide : 3 < 14) rfl) S384x28 p1 rfl rfl 196 ((before a0 a1 a2 a3 a4 a5 a6 p0 p1 p2 p3 p4 p5 p6 3).trans (by decide +kernel)) (ix2 c q) (off c _ q) (by show 196 + q.val = 112 * 1 + (84 + q.val); omega)
  | 2 => exact concatenate_apply_piece 1 _ h _ 5 (Nat.lt_of_lt_of_eq (by decide : 5 < 14) rfl) S384x28 p2 rfl rfl 308 ((before a0 a1 a2 a3 a4 a5 a6 p0 p1 p2 p3 p4 p5 p6 5).trans (by decide +kernel)) (ix2 c q) (off c _ q) (by show 308 + q.val = 112 * 2 + (84 + q.val); omega)
  | 3 => exact concatenate_apply_piece 1 _ h _ 7 (Nat.lt_of_lt_of_eq (by decide : 7 < 14) rfl) S384x28 p3 rfl rfl 420 ((before a0 a1 a2 a3 a4 a5 a6 p0 p1 p2 p3 p4 p5 p6 7).trans (by decide +kernel)) (ix2 c q) (off c _ q) (by show 420 + q.val = 112 * 3 + (84 + q.val); omega)
  | 4 => exact concatenate_apply_piece 1 _ h _ 9 (Nat.lt_of_lt_of_eq (by decide : 9 < 14) rfl) S384x28 p4 rfl rfl 532 ((before a0 a1 a2 a3 a4 a5 a6 p0 p1 p2 p3 p4 p5 p6 9).trans (by decide +kernel)) (ix2 c q) (off c _ q) (by show 532 + q.val = 112 * 4 + (84 + q.val); omega)
  | 5 => exact concatenate_apply_piece 1 _ h _ 11 (Nat.lt_of_lt_of_eq (by decide : 11 < 14) rfl) S384x28 p5 rfl rfl 644 ((before a0 a1 a2 a3 a4 a5 a6 p0 p1 p2 p3 p4 p5 p6 11).trans (by decide +kernel)) (ix2 c q) (off c _ q) (by show 644 + q.val = 112 * 5 + (84 + q.val); omega)
  | 6 => exact concatenate_apply_piece 1 _ h _ 13 (Nat.lt_of_lt_of_eq (by decide : 13 < 14) rfl) S384x28 p6 rfl rfl 756 ((before a0 a1 a2 a3 a4 a5 a6 p0 p1 p2 p3 p4 p5 p6 13).trans (by decide +kernel)) (ix2 c q) (off c _ q) (by show 756 + q.val = 112 * 6 + (84 + q.val); omega)

end

variable (x7 : Vec Ideal S384x588 .bf16) (x9 : Vec Ideal S64x196 .bf16) (x11 : Vec Ideal S1x64 .i32)

theorem eq_at (a b : BitVec 32) : IntOp.cmpi CmpIPredicate.eq a b = 1#1 ↔ a = b := by
  show BitVec.ofBool (a == b) = 1#1 ↔ a = b
  by_cases h : a = b
  · simp [h]
  · simp [h, beq_false_of_ne h]

theorem ld7_at (o : ℕ) (inb) (c : Fin 384) (q : Fin 84) (y : Fin 588) (h : y.val = o + q.val) :
    View.ld x7 (Rect.unit ![0, o] ![384, 84] inb) (ix2 c q) = x7 (ix2 c y) := by
  refine congrArg x7 (funext fun e => Fin.ext ?_)
  match e with
  | ⟨0, _⟩ => show 0 + 1 * c.val = c.val; omega
  | ⟨1, _⟩ => show o + 1 * q.val = y.val; omega

theorem wall_base (c : Fin 384) (j : Fin 7) (q : Fin 84) :
    wallOf x7 x9 x11 (ix2 c (⟨112 * j.val + q.val, by omega⟩ : Fin 784)) = x7 (ix2 c (⟨84 * j.val + q.val, by omega⟩ : Fin 588)) := by
  unfold wallOf k0_pay2
  simp only [shapeCast_self]
  refine (cat_base _ _ _ _ _ _ _ _ _ _ _ _ _ _ _ c j q).trans ?_
  match j with
  | 0 => exact ld7_at x7 0 _ c q _ (by show 84 * 0 + q.val = 0 + q.val; omega)
  | 1 => exact ld7_at x7 84 _ c q _ (by show 84 * 1 + q.val = 84 + q.val; omega)
  | 2 => exact ld7_at x7 168 _ c q _ (by show 84 * 2 + q.val = 168 + q.val; omega)
  | 3 => exact ld7_at x7 252 _ c q _ (by show 84 * 3 + q.val = 252 + q.val; omega)
  | 4 => exact ld7_at x7 336 _ c q _ (by show 84 * 4 + q.val = 336 + q.val; omega)
  | 5 => exact ld7_at x7 420 _ c q _ (by show 84 * 5 + q.val = 420 + q.val; omega)
  | 6 => exact ld7_at x7 504 _ c q _ (by show 84 * 6 + q.val = 504 + q.val; omega)

theorem wall_pat (c : Fin 384) (j : Fin 7) (q : Fin 28) :
    wallOf x7 x9 x11 (ix2 c (⟨112 * j.val + (84 + q.val), by omega⟩ : Fin 784)) =
      ∑ p : Fin 64, (if BitVec.ofNat 32 c.val = x11 (ix2 (0 : Fin 1) p) then 1 else 0) * x9 (ix2 p (⟨28 * j.val + q.val, by omega⟩ : Fin 196)) := by
  unfold wallOf k0_pay2
  simp only [shapeCast_self]
  refine (cat_pat _ _ _ _ _ _ _ _ _ _ _ _ _ _ _ c j q).trans ?_
  match j with
  | 0 => pointwise; exact Finset.sum_congr rfl fun p _ => congrArg (· * _) ((bit_at _).trans (if_congr (eq_at _ _) rfl rfl))
  | 1 => pointwise; exact Finset.sum_congr rfl fun p _ => congrArg (· * _) ((bit_at _).trans (if_congr (eq_at _ _) rfl rfl))
  | 2 => pointwise; exact Finset.sum_congr rfl fun p _ => congrArg (· * _) ((bit_at _).trans (if_congr (eq_at _ _) rfl rfl))
  | 3 => pointwise; exact Finset.sum_congr rfl fun p _ => congrArg (· * _) ((bit_at _).trans (if_congr (eq_at _ _) rfl rfl))
  | 4 => pointwise; exact Finset.sum_congr rfl fun p _ => congrArg (· * _) ((bit_at _).trans (if_congr (eq_at _ _) rfl rfl))
  | 5 => pointwise; exact Finset.sum_congr rfl fun p _ => congrArg (· * _) ((bit_at _).trans (if_congr (eq_at _ _) rfl rfl))
  | 6 => pointwise; exact Finset.sum_congr rfl fun p _ => congrArg (· * _) ((bit_at _).trans (if_congr (eq_at _ _) rfl rfl))

end Cert.KernelIdeal.Out
end
end
-- ==== Proof.Answer.lean ====
/-
  The value both programs give, written once as plain formulas over the extended reals.
-/
module

public import Idealize.ShloMosaic.Lib.Pointwise

@[expose] public section

noncomputable section

namespace Cert.Answer

open Idealize.ShloMosaic Idealize.ShloMosaic.Pointwise

/-- The feature of one image at a position and a channel: a product of its row with the weights, cut at zero. -/
def feat (x : (⟨4, ![256, 14, 14, 192]⟩ : Shape).Idx → EReal) (w : (⟨2, ![192, 384]⟩ : Shape).Idx → EReal)
    (b : Fin 256) (p : Fin 196) (c : Fin 384) : EReal :=
  max (∑ k : Fin 192, x (ix4 b (⟨p.val / 14, by omega⟩ : Fin 14) (⟨p.val % 14, by omega⟩ : Fin 14) k) * w (ix2 k c)) 0

/-- The match score: the mean feature of each channel, through one hidden layer of `tanh`, to one number. -/
def score (f : Fin 196 → Fin 384 → EReal) (wp : (⟨2, ![384, 256]⟩ : Shape).Idx → EReal) (bp : (⟨1, ![256]⟩ : Shape).Idx → EReal)
    (wm : (⟨2, ![256, 1]⟩ : Shape).Idx → EReal) (bm : (⟨1, ![1]⟩ : Shape).Idx → EReal) : EReal :=
  ∑ o : Fin 256, Ideal.tanh ((∑ c : Fin 384, (∑ p : Fin 196, f p c) * ((1 / 196 : ℝ) : EReal) * wp (ix2 c o)) + bp (ix1 o)) * wm (ix2 o (0 : Fin 1))
    + bm (ix1 (0 : Fin 1))

/-- The logit of a class: all features against that class's weights. -/
def baseLogit (f : Fin 196 → Fin 384 → EReal) (w : (⟨2, ![75264, 3]⟩ : Shape).Idx → EReal) (b : (⟨1, ![3]⟩ : Shape).Idx → EReal)
    (d : Fin 3) : EReal :=
  ∑ p : Fin 196, ∑ c : Fin 384, f p c * w (ix2 (⟨384 * p.val + c.val, by omega⟩ : Fin 75264) d) + b (ix1 d)

/-- The pattern logit: the features of the chosen channels against the pattern weights. -/
def patLogit (f : Fin 196 → Fin 384 → EReal) (σ : Fin 64 → Fin 384) (w : (⟨2, ![12544, 1]⟩ : Shape).Idx → EReal)
    (b : (⟨1, ![1]⟩ : Shape).Idx → EReal) : EReal :=
  ∑ p : Fin 196, ∑ s : Fin 64, f p (σ s) * w (ix2 (⟨64 * p.val + s.val, by omega⟩ : Fin 12544) (0 : Fin 1)) + b (ix1 (0 : Fin 1))

/-- The softmax of three logits, with the maximum taken off first. -/
def soft (bl : Fin 3 → EReal) (d : Fin 3) : EReal :=
  let top := Finset.fold max (Ideal.ofBits FTy.f32 4286578688#32) bl Finset.univ
  Ideal.div (Ideal.exp (bl d - top)) (∑ x, Ideal.exp (bl x - top))

/-- The pattern answer from a probability: the probability itself, then the rest shared by two classes. -/
def patOut (s : EReal) (d : Fin 3) : EReal :=
  if d.val = 0 then s else Ideal.div (1 - s) (Ideal.ofBits FTy.f32 1073741824#32)

/-- One when the image matches the pattern and the pattern head is confident, zero otherwise. -/
def chosen (ml s : EReal) : BitVec 1 :=
  IntOp.andi (BitVec.ofBool (decide (0 < ml))) (BitVec.ofBool (decide (Ideal.ofBits FTy.f32 1056964608#32 ≤ s)))

/-- The output from the match score, the pattern logit and the three base logits. -/
def answer (ml pl : EReal) (bl : Fin 3 → EReal) (d : Fin 3) : EReal :=
  Scalar.select (chosen ml (Ideal.logistic pl)) (patOut (Ideal.logistic pl) d) (soft bl d)

end Cert.Answer
end
end
-- ==== Proof.KernelHead.lean ====
/-
  The last step of the body, read at an index: the two heads and the choice between them.
-/
module

public import proofs.«01_k».proof.Proof.KernelOut
public import proofs.«01_k».proof.Proof.Answer
public import Idealize.ShloMosaic.Lib.Pointwise

@[expose] public section

set_option maxRecDepth 16384

noncomputable section

namespace Cert.KernelIdeal.Out

open Idealize.ShloMosaic Idealize.ShloMosaic.TcCoe Idealize.SL.Sem Cert.KernelIdeal Cert.KernelIdeal.Gen Idealize.ShloMosaic.Pointwise

variable (ml b0 b1 b2 : FVec Ideal S32x1 .f32) (ps : FVec Ideal S32x112 .f32) (x8 : Vec Ideal S1x3 .f32) (x10 : Vec Ideal S1x1 .f32) (x6 : Vec Ideal S1x1 .f32)

/-- The stored block at a row and a class, from the scores of that row. -/
theorem out_at (r : Fin 32) (bl : Fin 3 → EReal)
    (h0 : b0 (ix2 r (0 : Fin 1)) + x8 (ix2 (0 : Fin 1) (0 : Fin 3)) = bl 0)
    (h1 : b1 (ix2 r (0 : Fin 1)) + x8 (ix2 (0 : Fin 1) (1 : Fin 3)) = bl 1)
    (h2 : b2 (ix2 r (0 : Fin 1)) + x8 (ix2 (0 : Fin 1) (2 : Fin 3)) = bl 2) (d : Fin 3) :
    k0_pay1 ml b0 b1 b2 ps x8 x10 (ix2 r d) =
      Cert.Answer.answer (ml (ix2 r (0 : Fin 1)))
        (∑ q : Fin 112, ps (ix2 r q) + x10 (ix2 (0 : Fin 1) (0 : Fin 1))) bl d := by
  have key (x : Fin 3) :
      (if h : x.val < 1 then b0 (ix2 r (⟨x.val, h⟩ : Fin 1))
        else if h' : x.val - 1 < 1 then b1 (ix2 r (⟨x.val - 1, h'⟩ : Fin 1))
        else b2 (ix2 r (⟨x.val - 1 - 1, by omega⟩ : Fin 1))) + x8 (ix2 (0 : Fin 1) x) = bl x := by
    fin_cases x
    · exact h0
    · exact h1
    · exact h2
  pointwise [k0_pay1]
  simp only [key]
  have out (s t : EReal) : (if h : d.val < 1 then s else if h : d.val - 1 < 1 then t else t) = if d.val = 0 then s else t := by
    by_cases h : d.val = 0
    · rw [dif_pos (by omega), if_pos h]
    · rw [dif_neg (by omega), if_neg h, dite_eq_ite, ite_self]
  rw [out]
  rfl

/-- The match score: the pooled score and its bias. -/
theorem score_at (r : Fin 32)  :
    k0_pay23 ml x6 (ix2 r (0 : Fin 1)) = ml (ix2 r (0 : Fin 1)) + x6 (ix2 (0 : Fin 1) (0 : Fin 1)) := by
  pointwise [k0_pay23]

end Cert.KernelIdeal.Out
end
end
-- ==== Proof.KernelValue.lean ====
/-
  The kernel's result array as a plain formula of its arguments.
-/
module

public import proofs.«01_k».proof.Proof.KernelRun
public import proofs.«01_k».proof.Proof.KernelBlock
public import proofs.«01_k».proof.Proof.KernelMask
public import proofs.«01_k».proof.Proof.KernelWall
public import proofs.«01_k».proof.Proof.KernelHead
public import proofs.«01_k».proof.Proof.Sums

@[expose] public section

set_option maxRecDepth 16384

noncomputable section

namespace Cert.KernelIdeal.Out

open Idealize.ShloMosaic Idealize.ShloMosaic.TcCoe Idealize.SL.Sem Cert.KernelIdeal Cert.KernelIdeal.Gen Idealize.ShloMosaic.Pointwise

variable (m : (ℓ : Loc nD τ sig) → Buf (Elt Ideal) ℓ) (c : Dev nD)

/-- The arguments, as arrays. -/
abbrev a0 : Vec Ideal S256x14x14x192 .f32 := m ((c : Thread nD τ).loc main_arg0)
abbrev a1 : Vec Ideal S192x384 .f32 := m ((c : Thread nD τ).loc main_arg1)
abbrev a3 : Vec Ideal S384x256 .f32 := m ((c : Thread nD τ).loc main_arg3)
abbrev a4 : Vec Ideal S256 .f32 := m ((c : Thread nD τ).loc main_arg4)
abbrev a5 : Vec Ideal S256x1 .f32 := m ((c : Thread nD τ).loc main_arg5)
abbrev a6 : Vec Ideal S1 .f32 := m ((c : Thread nD τ).loc main_arg6)
abbrev a7 : Vec Ideal S75264x3 .f32 := m ((c : Thread nD τ).loc main_arg7)
abbrev a8 : Vec Ideal S3 .f32 := m ((c : Thread nD τ).loc main_arg8)
abbrev a9 : Vec Ideal S12544x1 .f32 := m ((c : Thread nD τ).loc main_arg9)
abbrev a10 : Vec Ideal S1 .f32 := m ((c : Thread nD τ).loc main_arg10)
abbrev a11 : Vec Ideal S64 .i32 := m ((c : Thread nD τ).loc main_arg11)

/-- Image `r` of block `t`. -/
abbrev img (t : Fin cfg0.N) (r : Fin 32) : Fin 256 := ⟨32 * t.val + r.val, by have := Arr.tlt t; omega⟩

/-- The features of an image. -/
abbrev fe (t : Fin cfg0.N) (r : Fin 32) : Fin 196 → Fin 384 → EReal := Cert.Answer.feat (a0 m c) (a1 m c) (img t r)

/-- The gathered products of block `t`. -/
abbrev sa (t : Fin cfg0.N) : FVec Ideal S32x112 .f32 := sacc (iblk m c 0 t) (wf m c) (wall m c) mselOf

theorem wf_at (k : Fin 192) (ch : Fin 384) : wf m c (ix2 k ch) = a1 m c (ix2 k ch) := by
  unfold wf
  rw [Arr.blk1]
  pointwise [k0_pay8]

/-- The features the body computes are the features of the image. -/
theorem feat_eq (t : Fin cfg0.N) (r : Fin 32) (p : Fin 196) (ch : Fin 384) :
    feat (iblk m c 0 t) (wf m c) r p ch = fe m c t r p ch := by
  unfold feat fe Cert.Answer.feat
  simp only [Arr.blk0, wf_at]

/-- The base weights in the laid-out weights. -/
theorem wall_base_at (d : Fin 3) (ch : Fin 384) (j : Fin 7) (t : Fin 28) :
    wall m c (ix2 ch (⟨112 * j.val + (3 * t.val + d.val), by omega⟩ : Fin 784)) =
      a7 m c (ix2 (⟨384 * (28 * j.val + t.val) + ch.val, by omega⟩ : Fin 75264) d) := by
  unfold wall
  refine (wall_base _ _ _ ch j (⟨3 * t.val + d.val, by omega⟩ : Fin 84)).trans ?_
  rw [Arr.blk7]
  have h1 : (84 * j.val + (3 * t.val + d.val)) / 3 = 28 * j.val + t.val := by omega
  have h2 : (84 * j.val + (3 * t.val + d.val)) % 3 = d.val := by omega
  exact congrArg₂ (fun x y => a7 m c (ix2 x y)) (Fin.ext (by show 384 * ((84 * j.val + (3 * t.val + d.val)) / 3) + ch.val = _; rw [h1])) (Fin.ext h2)

variable (σ : Fin 64 → Fin 384) (hσ : ∀ s : Fin 64, a11 m c (ix1 s) = BitVec.ofNat 32 (σ s).val)

include hσ in
/-- The pattern weights in the laid-out weights, each in the row of its channel. -/
theorem wall_pat_at (ch : Fin 384) (j : Fin 7) (t : Fin 28) :
    wall m c (ix2 ch (⟨112 * j.val + (84 + t.val), by omega⟩ : Fin 784)) =
      ∑ s : Fin 64, (if ch = σ s then 1 else 0) *
        a9 m c (ix2 (⟨64 * (28 * j.val + t.val) + s.val, by omega⟩ : Fin 12544) (0 : Fin 1)) := by
  unfold wall
  refine (wall_pat _ _ _ ch j t).trans (Finset.sum_congr rfl fun s _ => ?_)
  rw [Arr.blk9, Arr.blk11, show (m ((c : Thread nD τ).loc main_arg11) : Vec Ideal S64 .i32) (ix1 s) = _ from hσ s]
  refine congrArg (· * _) (if_congr ⟨fun h => ?_, fun h => by rw [h]⟩ rfl rfl)
  have v := congrArg BitVec.toNat h
  rw [BitVec.toNat_ofNat, BitVec.toNat_ofNat] at v
  exact Fin.ext (by omega)

/-- The gathered products at a row and a column. -/
theorem sa_at (t : Fin cfg0.N) (r : Fin 32) (q : Fin 112) :
    sa m c t (ix2 r q) = ∑ u : Fin 28, (∑ j : Fin 7, ∑ ch : Fin 384, fe m c t r ⟨28 * j.val + u.val, by omega⟩ ch *
      wall m c (ix2 ch (⟨112 * j.val + q.val, by omega⟩ : Fin 784))) * mselOf (ix2 (row r u) q) := by
  refine (sacc_at _ _ _ _ r q).trans ?_
  simp only [feat_eq]

/-- The kept columns of a class add up to that class's logit, before its bias. -/
theorem base_total (t : Fin cfg0.N) (r : Fin 32) (d : Fin 3) :
    ∑ q : Fin 112, sa m c t (ix2 r q) * headMask d q = ∑ p : Fin 196, ∑ ch : Fin 384, fe m c t r p ch *
      a7 m c (ix2 (⟨384 * p.val + ch.val, by omega⟩ : Fin 75264) d) := by
  simp only [sa_at]
  exact Cert.Sums.base_sum (fe m c t r) (fun ch y => wall m c (ix2 ch y))
    (fun p ch => a7 m c (ix2 (⟨384 * p.val + ch.val, by omega⟩ : Fin 75264) d)) d (fun ch j u => wall_base_at m c d ch j u)
    (fun u q => ∑ j : Fin 7, ∑ ch : Fin 384, fe m c t r ⟨28 * j.val + u.val, by omega⟩ ch *
      wall m c (ix2 ch (⟨112 * j.val + q.val, by omega⟩ : Fin 784))) (fun u q => mselOf (ix2 (row r u) q)) (fun _ _ => rfl)
    (fun u q => msel_at r u q) (headMask d) (fun _ => rfl)

include hσ in
/-- The kept pattern columns add up to the pattern logit, before its bias, when the channels are distinct. -/
theorem pat_total (hi : Function.Injective σ) (t : Fin cfg0.N) (r : Fin 32) :
    ∑ q : Fin 112, sa m c t (ix2 r q) * patMask q = ∑ p : Fin 196, ∑ s : Fin 64, fe m c t r p (σ s) *
      a9 m c (ix2 (⟨64 * p.val + s.val, by omega⟩ : Fin 12544) (0 : Fin 1)) := by
  simp only [sa_at]
  refine (Cert.Sums.pat_sum (fe m c t r) (fun ch y => wall m c (ix2 ch y))
    (fun p ch => ∑ s : Fin 64, (if ch = σ s then 1 else 0) * a9 m c (ix2 (⟨64 * p.val + s.val, by omega⟩ : Fin 12544) (0 : Fin 1)))
    (fun ch j u => wall_pat_at m c σ hσ ch j u)
    (fun u q => ∑ j : Fin 7, ∑ ch : Fin 384, fe m c t r ⟨28 * j.val + u.val, by omega⟩ ch *
      wall m c (ix2 ch (⟨112 * j.val + q.val, by omega⟩ : Fin 784))) (fun u q => mselOf (ix2 (row r u) q)) (fun _ _ => rfl)
    (fun u q => msel_at r u q) patMask (fun _ => rfl)).trans ?_
  exact Finset.sum_congr rfl fun p _ => Cert.Sums.gather_sum (fe m c t r p) _ σ hi

/-- The match score. -/
theorem score_total (t : Fin cfg0.N) (r : Fin 32) :
    k0_pay23 (pool (iblk m c 0 t) (wf m c) (iblk m c 3 t) (iblk m c 4 t) (iblk m c 5 t)) (iblk m c 6 t) (ix2 r (0 : Fin 1)) =
      Cert.Answer.score (fe m c t r) (a3 m c) (a4 m c) (a5 m c) (a6 m c) := by
  refine (score_at _ _ r).trans ?_
  rw [pool_at, Arr.blk3, Arr.blk5, Arr.blk6]
  simp only [feat_eq, Arr.blk4]
  unfold Cert.Answer.score
  refine congrArg (· + _) (Finset.sum_congr rfl fun o _ => congrArg (fun z => Ideal.tanh (z + _) * _) (Finset.sum_congr rfl fun ch _ => ?_))
  exact congrArg (fun z => z * _ * _) (Cert.Sums.sum_chunks fun p => fe m c t r p ch)

include hσ in
/-- The block point `t` leaves. -/
theorem outBlk_at (hi : Function.Injective σ) (t : Fin cfg0.N) (r : Fin 32) (d : Fin 3) :
    outBlk m c t (ix2 r d) = Cert.Answer.answer (Cert.Answer.score (fe m c t r) (a3 m c) (a4 m c) (a5 m c) (a6 m c))
      (Cert.Answer.patLogit (fe m c t r) σ (a9 m c) (a10 m c)) (Cert.Answer.baseLogit (fe m c t r) (a7 m c) (a8 m c)) d := by
  unfold outBlk body
  refine (out_at _ _ _ _ _ _ _ r (Cert.Answer.baseLogit (fe m c t r) (a7 m c) (a8 m c)) ?_ ?_ ?_ d).trans ?_
  · rw [base0_at, Arr.blk8]
    exact congrArg (· + _) (base_total m c t r 0)
  · rw [base1_at, Arr.blk8]
    exact congrArg (· + _) (base_total m c t r 1)
  · rw [base2_at, Arr.blk8]
    exact congrArg (· + _) (base_total m c t r 2)
  · refine congrArg₂ (fun x y => Cert.Answer.answer x y _ d) (score_total m c t r) ?_
    unfold Cert.Answer.patLogit
    refine congrArg₂ (fun x y : EReal => x + y) ?_ (Arr.blk10 m c t)
    exact (Finset.sum_congr rfl fun q _ => pat_at _ r q).trans (pat_total m c σ hσ hi t r)

include hσ in
/-- The result array after the run. -/
theorem result_at (hi : Function.Injective σ) (b : Fin 256) (d : Fin 3) :
    Value.G12 m c (ix2 b d) = Cert.Answer.answer (Cert.Answer.score (Cert.Answer.feat (a0 m c) (a1 m c) b) (a3 m c) (a4 m c) (a5 m c) (a6 m c))
      (Cert.Answer.patLogit (Cert.Answer.feat (a0 m c) (a1 m c) b) σ (a9 m c) (a10 m c))
      (Cert.Answer.baseLogit (Cert.Answer.feat (a0 m c) (a1 m c) b) (a7 m c) (a8 m c)) d := by
  rw [G12_eq, outBlk_at m c σ hσ hi]
  have e : img (⟨b.val / 32, by rw [show cfg0.N = 8 from N_0]; omega⟩ : Fin cfg0.N) (⟨b.val % 32, by omega⟩ : Fin 32) = b :=
    Fin.ext (by show 32 * (b.val / 32) + b.val % 32 = b.val; omega)
  unfold fe
  rw [e]

end Cert.KernelIdeal.Out
end
end
-- ==== Proof.RefHead.lean ====
/-
  The reference's last steps at an index: from its three scores to its output.
-/
module

public import proofs.«01_k».proof.Proof.Gen.ReferenceIdeal.Read
public import proofs.«01_k».proof.Proof.Answer

@[expose] public section

set_option maxRecDepth 16384

noncomputable section

namespace Cert.ReferenceIdeal.Out

open Idealize.ShloMosaic Idealize.ShloMosaic.Pointwise Cert.ReferenceIdeal.Read

variable (x0 : (⟨S256x14x14x192, .f32⟩ : BufTy).Contents (Elt Ideal)) (x1 : (⟨S192x384, .f32⟩ : BufTy).Contents (Elt Ideal))
  (x2 : (⟨S384, .f32⟩ : BufTy).Contents (Elt Ideal)) (x3 : (⟨S384x256, .f32⟩ : BufTy).Contents (Elt Ideal))
  (x4 : (⟨S256, .f32⟩ : BufTy).Contents (Elt Ideal)) (x5 : (⟨S256x1, .f32⟩ : BufTy).Contents (Elt Ideal))
  (x6 : (⟨S1, .f32⟩ : BufTy).Contents (Elt Ideal)) (x7 : (⟨S75264x3, .f32⟩ : BufTy).Contents (Elt Ideal))
  (x8 : (⟨S3, .f32⟩ : BufTy).Contents (Elt Ideal)) (x9 : (⟨S12544x1, .f32⟩ : BufTy).Contents (Elt Ideal))
  (x10 : (⟨S1, .f32⟩ : BufTy).Contents (Elt Ideal)) (x11 : (⟨S64, .i32⟩ : BufTy).Contents (Elt Ideal))

/-- Minus infinity is below everything, so taking the maximum with it changes nothing. -/
theorem bot_max (t : EReal) : max (Ideal.ofBits FTy.f32 4286578688#32) t = t := by
  have e : Ideal.ofBits FTy.f32 4286578688#32 = ⊥ := by simp [Ideal.ofBits, Ideal.ieee]
  rw [e]; exact max_bot_left t

/-- The largest logit of an image. -/
theorem top_at (b : Fin 256) :
    val_main_v38 (F := Ideal) x0 x1 x2 x7 x8 (ix1 b) =
      Finset.fold max (Ideal.ofBits FTy.f32 4286578688#32) (fun x : Fin 3 => val_main_v37 (F := Ideal) x0 x1 x2 x7 x8 (ix2 b x)) Finset.univ := by
  pointwise [val_main_v38, val_main_cst_5]

/-- The exponential of a logit less the largest. -/
theorem exp_at (b : Fin 256) (d : Fin 3) :
    val_main_v44 (F := Ideal) x0 x1 x2 x7 x8 (ix2 b d) =
      Ideal.exp (val_main_v37 (F := Ideal) x0 x1 x2 x7 x8 (ix2 b d) - val_main_v38 (F := Ideal) x0 x1 x2 x7 x8 (ix1 b)) := by
  pointwise [val_main_v44, val_main_v43, val_main_v42, val_main_v41, val_main_v40, val_main_v39, val_main_cst_6]
  rw [bot_max]

/-- The base head: the softmax of the three logits. -/
theorem soft_at (b : Fin 256) (d : Fin 3) :
    val_main_v48 (F := Ideal) x0 x1 x2 x7 x8 (ix2 b d) =
      Cert.Answer.soft (fun x => val_main_v37 (F := Ideal) x0 x1 x2 x7 x8 (ix2 b x)) d := by
  pointwise [val_main_v48, val_main_v47, val_main_v46, val_main_v45, val_main_cst_7]
  simp only [exp_at, top_at]
  rfl

/-- The pattern probability: the logistic function, spelt out. -/
theorem sig_at (b : Fin 256) :
    val_main_v32 (F := Ideal) x0 x1 x2 x9 x10 x11 (ix2 b (0 : Fin 1)) =
      Ideal.logistic (val_main_v26 (F := Ideal) x0 x1 x2 x9 x10 x11 (ix2 b (0 : Fin 1))) := by
  pointwise [val_main_v32, val_main_v31, val_main_v30, val_main_v29, val_main_v28, val_main_v27, val_main_cst_3, val_main_cst_4]
  rfl

/-- The pattern head: the probability, and half of what is left for each other class. -/
theorem pat_at (b : Fin 256) (d : Fin 3) :
    val_main_v53 (F := Ideal) x0 x1 x2 x9 x10 x11 (ix2 b d) =
      Cert.Answer.patOut (val_main_v32 (F := Ideal) x0 x1 x2 x9 x10 x11 (ix2 b (0 : Fin 1))) d := by
  pointwise [val_main_v53, val_main_v52, val_main_v51, val_main_v50, val_main_v49, val_main_cst_8, val_main_cst_9]
  fin_cases d <;> rfl

/-- The output from the three scores. -/
theorem out_at (b : Fin 256) (d : Fin 3) :
    val_main_v59 (F := Ideal) x0 x1 x2 x3 x4 x5 x6 x7 x8 x9 x10 x11 (ix2 b d) =
      Cert.Answer.answer (val_main_v17 (F := Ideal) x0 x1 x2 x3 x4 x5 x6 (ix2 b (0 : Fin 1)))
        (val_main_v26 (F := Ideal) x0 x1 x2 x9 x10 x11 (ix2 b (0 : Fin 1)))
        (fun x => val_main_v37 (F := Ideal) x0 x1 x2 x7 x8 (ix2 b x)) d := by
  pointwise [val_main_v59, val_main_call1_v0, val_main_v58, val_main_v57, val_main_v56, val_main_v55, val_main_v54, val_main_v20, val_main_v19, val_main_v18, val_main_cst_10, val_main_cst_2]
  rw [pat_at, soft_at, sig_at]
  rfl

end Cert.ReferenceIdeal.Out
end
end
-- ==== Proof.RefFeat.lean ====
/-
  The reference's features, and the two scores made of all of them: the match score and the base logits.
-/
module

public import proofs.«01_k».proof.Proof.Gen.ReferenceIdeal.Read
public import proofs.«01_k».proof.Proof.Answer
public import proofs.«01_k».proof.Proof.Sums

@[expose] public section

set_option maxRecDepth 16384

noncomputable section

namespace Cert.ReferenceIdeal.Out

open Idealize.ShloMosaic Idealize.ShloMosaic.Pointwise Cert.ReferenceIdeal.Read

variable (x0 : (⟨S256x14x14x192, .f32⟩ : BufTy).Contents (Elt Ideal)) (x1 : (⟨S192x384, .f32⟩ : BufTy).Contents (Elt Ideal))
  (x2 : (⟨S384, .f32⟩ : BufTy).Contents (Elt Ideal)) (x3 : (⟨S384x256, .f32⟩ : BufTy).Contents (Elt Ideal))
  (x4 : (⟨S256, .f32⟩ : BufTy).Contents (Elt Ideal)) (x5 : (⟨S256x1, .f32⟩ : BufTy).Contents (Elt Ideal))
  (x6 : (⟨S1, .f32⟩ : BufTy).Contents (Elt Ideal)) (x7 : (⟨S75264x3, .f32⟩ : BufTy).Contents (Elt Ideal))
  (x8 : (⟨S3, .f32⟩ : BufTy).Contents (Elt Ideal))

/-- A feature, the bias being zero: at row `h` and column `w` of the image, position `p = 14 h + w`. -/
theorem feat_at (hb : ∀ c : Fin 384, x2 (ix1 c) = (0 : EReal)) (b : Fin 256) (h w : Fin 14) (c : Fin 384) (p : Fin 196)
    (hh : h.val = p.val / 14) (hw : w.val = p.val % 14) :
    val_main_v5 (F := Ideal) x0 x1 x2 (ix4 b h w c) = Cert.Answer.feat x0 x1 b p c := by
  rw [show h = ⟨p.val / 14, by omega⟩ from Fin.ext hh, show w = ⟨p.val % 14, by omega⟩ from Fin.ext hw]
  pointwise [val_main_v5, val_main_v4, val_main_v3, val_main_v2, val_main_v1, val_main_v0, val_main_cst]
  rw [hb, add_zero]
  rfl

/-- A sum over the two middle axes of a four-axis array, read at what is left. -/
theorem sum_middle (h : (⟨4, ![256, 14, 14, 384]⟩ : Shape).ReducesTo [1, 2] (⟨2, ![256, 384]⟩ : Shape))
    (v : (⟨4, ![256, 14, 14, 384]⟩ : Shape).Idx → EReal) (init : EReal) (b : Fin 256) (c : Fin 384) :
    Ideal.hostReduceAdd h v init (ix2 b c) = init + ∑ y : Fin 14, ∑ z : Fin 14, v (ix4 b y z c) := by
  refine congrArg (init + ·) ((Finset.sum_filter_eq_sum_of_fiber _ (fun k : Fin 14 × Fin 14 => ix4 b k.1 k.2 c)
    (fun _ _ e => Prod.ext (congrFun e 1) (congrFun e 2)) (fun i => ?_) v).trans ?_)
  · constructor
    · intro e
      refine ⟨(i 1, i 2), funext fun a => Fin.ext ?_⟩
      match a with
      | ⟨0, _⟩ => exact (congrArg Fin.val (congrFun e 0)).symm
      | ⟨1, _⟩ => rfl
      | ⟨2, _⟩ => rfl
      | ⟨3, _⟩ => exact (congrArg Fin.val (congrFun e 1)).symm
    · rintro ⟨k, rfl⟩
      refine funext fun a => Fin.ext ?_
      match a with
      | ⟨0, _⟩ => rfl
      | ⟨1, _⟩ => rfl
  · simp only [Fintype.sum_prod_type]

/-- The features of a channel summed over the image. -/
theorem total_at (hb : ∀ c : Fin 384, x2 (ix1 c) = (0 : EReal)) (b : Fin 256) (c : Fin 384) :
    val_main_v6 (F := Ideal) x0 x1 x2 (ix2 b c) = ∑ p : Fin 196, Cert.Answer.feat x0 x1 b p c := by
  show Ideal.hostReduceAdd _ (val_main_v5 (F := Ideal) x0 x1 x2) (Ideal.ofBits FTy.f32 0x00000000#32) (ix2 b c) = _
  rw [Ideal.ofBits_zero_f32, sum_middle, zero_add, Cert.Sums.sum_groups 14 14 rfl (fun p => Cert.Answer.feat x0 x1 b p c)]
  refine Finset.sum_congr rfl fun y _ => Finset.sum_congr rfl fun z _ => feat_at x0 x1 x2 hb b y z c _ ?_ ?_
  · show y.val = (14 * y.val + z.val) / 14
    omega
  · show z.val = (14 * y.val + z.val) % 14
    omega

/-- The number of positions. -/
theorem positions : Ideal.ofBits FTy.f32 0x43440000#32 = ((196 : ℝ) : EReal) := by
  simp [Ideal.ofBits, Ideal.ieee, -EReal.coe_mul]; norm_num

/-- The match score. -/
theorem score_at (hb : ∀ c : Fin 384, x2 (ix1 c) = (0 : EReal)) (b : Fin 256) :
    val_main_v17 (F := Ideal) x0 x1 x2 x3 x4 x5 x6 (ix2 b (0 : Fin 1)) =
      Cert.Answer.score (Cert.Answer.feat x0 x1 b) x3 x4 x5 x6 := by
  pointwise [val_main_v17, val_main_v16, val_main_v15, val_main_v14, val_main_v13, val_main_v12, val_main_v11, val_main_v10, val_main_v9, val_main_v8, val_main_v7, val_main_cst_1]
  simp only [positions, Ideal.div_coe (by norm_num : (196 : ℝ) ≠ 0), total_at x0 x1 x2 hb]
  rfl

/-- A base logit. -/
theorem base_at (hb : ∀ c : Fin 384, x2 (ix1 c) = (0 : EReal)) (b : Fin 256) (d : Fin 3) :
    val_main_v37 (F := Ideal) x0 x1 x2 x7 x8 (ix2 b d) = Cert.Answer.baseLogit (Cert.Answer.feat x0 x1 b) x7 x8 d := by
  pointwise [val_main_v37, val_main_v36, val_main_v35, val_main_v34, val_main_v33]
  refine congrArg (· + x8 (ix1 d)) ?_
  refine (Cert.Sums.sum_groups 196 384 rfl _).trans ?_
  refine Finset.sum_congr rfl fun p _ => Finset.sum_congr rfl fun c _ => ?_
  have hc : (⟨(384 * p.val + c.val) % 384, Nat.mod_lt _ (by norm_num)⟩ : Fin 384) = c :=
    Fin.ext (by show (384 * p.val + c.val) % 384 = c.val; omega)
  refine congrArg (· * _) (Eq.trans (feat_at x0 x1 x2 hb b _ _ _ p ?_ ?_) (congrArg (Cert.Answer.feat x0 x1 b p) hc))
  · show (384 * p.val + c.val) / 5376 = p.val / 14
    omega
  · show (384 * p.val + c.val) / 384 % 14 = p.val % 14
    omega

end Cert.ReferenceIdeal.Out
end
end
-- ==== Proof.RefTake.lean ====
/-
  The reference's chosen channels and the pattern logit made of them.
-/
module

public import proofs.«01_k».proof.Proof.RefFeat

@[expose] public section

set_option maxRecDepth 16384

noncomputable section

namespace Cert.ReferenceIdeal.Out

open Idealize.ShloMosaic Idealize.ShloMosaic.Pointwise Cert.ReferenceIdeal.Read

variable (x0 : (⟨S256x14x14x192, .f32⟩ : BufTy).Contents (Elt Ideal)) (x1 : (⟨S192x384, .f32⟩ : BufTy).Contents (Elt Ideal))
  (x2 : (⟨S384, .f32⟩ : BufTy).Contents (Elt Ideal)) (x9 : (⟨S12544x1, .f32⟩ : BufTy).Contents (Elt Ideal))
  (x10 : (⟨S1, .f32⟩ : BufTy).Contents (Elt Ideal)) (x11 : (⟨S64, .i32⟩ : BufTy).Contents (Elt Ideal))

/-- The word of a channel number is not negative, is at most the last channel, and reads back as the number. -/
theorem word_facts : ∀ k : Fin 384, IntOp.cmpi CmpIPredicate.slt (BitVec.ofNat 32 k.val) 0#32 = 0#1 ∧
    IntOp.cmpi CmpIPredicate.sge (BitVec.ofNat 32 k.val) 0#32 = 1#1 ∧ IntOp.cmpi CmpIPredicate.sle (BitVec.ofNat 32 k.val) 383#32 = 1#1 ∧
    min (BitVec.ofNat 32 k.val).toInt.toNat 383 = k.val := by
  decide +kernel

variable (σ : Fin 64 → Fin 384) (hσ : ∀ s : Fin 64, x11 (ix1 s) = BitVec.ofNat 32 (σ s).val)

include hσ

/-- The wrapped index is the index. -/
theorem wrap_at (s : Fin 64) : val_main_call0_v5 (F := Ideal) x11 (ix2 s (0 : Fin 1)) = BitVec.ofNat 32 (σ s).val := by
  pointwise [val_main_call0_v5, val_main_call0_v4, val_main_call0_v3, val_main_call0_v2, val_main_call0_v1, val_main_call0_v0, val_main_call0_c, val_main_call0_c_0]
  rw [hσ, (word_facts (σ s)).1]
  rfl

/-- Every index is in range, so the mask is set everywhere. -/
theorem mask_at (b : Fin 256) (y z : Fin 14) (s : Fin 64) :
    val_main_call0_v14 (F := Ideal) x11 (ix4 b y z s) = 1#1 := by
  pointwise [val_main_call0_v14, val_main_call0_v12, val_main_call0_v11, val_main_call0_v10, val_main_call0_v9, val_main_call0_v8, val_main_call0_v7, val_main_call0_v6, val_main_call0_c_1, val_main_call0_c_2, val_main_call0_c_3]
  rw [Finset.univ_unique, Finset.fold_singleton, show (default : Fin 1) = 0 from rfl, wrap_at x11 σ hσ s, (word_facts (σ s)).2.1,
    (word_facts (σ s)).2.2.1]
  rfl

/-- The channel the gather reads. -/
theorem gather_at (b : Fin 256) (y z : Fin 14) (s : Fin 64) :
    val_main_call0_v13 (F := Ideal) x0 x1 x2 x11 (ix4 b y z s) = val_main_v5 (F := Ideal) x0 x1 x2 (ix4 b y z (σ s)) := by
  unfold val_main_call0_v13 Host.gather
  congr 1
  funext a
  refine Fin.ext ?_
  have free (a : Fin 4) (h : a ≠ 3) : gather_S256x14x14x384_S64x1_S256x14x14x64_012_3_n_n_3_1_25614141.start (ix4 b y z s)
      (val_main_call0_v5 (F := Ideal) x11) a = 0 := by
    unfold GatherDims.start
    exact dif_neg (fun e => h (List.mem_singleton.mp e))
  show GatherDims.start _ _ _ a + GatherDims.batchCoord _ _ a + GatherDims.offCoord _ _ a = _
  rw [GatherDims.batchCoord_eq_zero _ _ _ List.not_mem_nil]
  match a with
  | ⟨0, _⟩ => rw [free _ (fun e => absurd (congrArg Fin.val e) (by norm_num))]; exact (Nat.zero_add _).trans rfl
  | ⟨1, _⟩ => rw [free _ (fun e => absurd (congrArg Fin.val e) (by norm_num))]; exact (Nat.zero_add _).trans rfl
  | ⟨2, _⟩ => rw [free _ (fun e => absurd (congrArg Fin.val e) (by norm_num))]; exact (Nat.zero_add _).trans rfl
  | ⟨3, _⟩ =>
    rw [GatherDims.offCoord_eq_zero _ _ _ (fun h => ((GatherDims.mem_sKept _ _).mp h).1 (List.mem_singleton.mpr rfl))]
    unfold GatherDims.start
    rw [dif_pos (show (⟨3, _⟩ : Fin S256x14x14x384.rank) ∈
      gather_S256x14x14x384_S64x1_S256x14x14x64_012_3_n_n_3_1_25614141.startIndexMap from List.mem_singleton.mpr rfl)]
    have hs : gather_S256x14x14x384_S64x1_S256x14x14x64_012_3_n_n_3_1_25614141.siIdx (ix4 b y z s)
        ⟨List.idxOf (3 : Fin 4) [3], List.idxOf_lt_length_iff.2 (List.mem_singleton.mpr rfl)⟩ = ix2 s (0 : Fin 1) := by
      refine funext fun c => Fin.ext ?_
      match c with
      | ⟨0, _⟩ => rfl
      | ⟨1, _⟩ => rfl
    refine (congrArg (fun i => min (val_main_call0_v5 (F := Ideal) x11 i).toInt.toNat 383) hs).trans ?_
    show min (val_main_call0_v5 (F := Ideal) x11 (ix2 s (0 : Fin 1))).toInt.toNat 383 = (σ s).val
    rw [wrap_at x11 σ hσ s]
    exact (word_facts (σ s)).2.2.2

/-- The pattern logit. -/
theorem logit_at (hb : ∀ c : Fin 384, x2 (ix1 c) = (0 : EReal)) (b : Fin 256) :
    val_main_v26 (F := Ideal) x0 x1 x2 x9 x10 x11 (ix2 b (0 : Fin 1)) = Cert.Answer.patLogit (Cert.Answer.feat x0 x1 b) σ x9 x10 := by
  pointwise [val_main_v26, val_main_v25, val_main_v24, val_main_v23, val_main_v22, val_main_v21]
  refine congrArg (· + x10 (ix1 (0 : Fin 1))) ?_
  refine (Cert.Sums.sum_groups 196 64 rfl _).trans ?_
  refine Finset.sum_congr rfl fun p _ => Finset.sum_congr rfl fun s _ => ?_
  have hs : (⟨(64 * p.val + s.val) % 64, Nat.mod_lt _ (by norm_num)⟩ : Fin 64) = s :=
    Fin.ext (by show (64 * p.val + s.val) % 64 = s.val; omega)
  refine congrArg (· * _) ?_
  rw [mask_at x11 σ hσ]
  refine (gather_at x0 x1 x2 x11 σ hσ _ _ _ _).trans ?_
  refine Eq.trans (feat_at x0 x1 x2 hb b _ _ _ p ?_ ?_) (congrArg (fun s => Cert.Answer.feat x0 x1 b p (σ s)) hs)
  · show (64 * p.val + s.val) / 896 = p.val / 14
    omega
  · show (64 * p.val + s.val) / 64 % 14 = p.val % 14
    omega

end Cert.ReferenceIdeal.Out
end
end
-- ==== Proof.RefValue.lean ====
/-
  The reference's result as a plain formula of its arguments.
-/
module

public import proofs.«01_k».proof.Proof.RefHead
public import proofs.«01_k».proof.Proof.RefFeat
public import proofs.«01_k».proof.Proof.RefTake

@[expose] public section

noncomputable section

namespace Cert.ReferenceIdeal.Out

open Idealize.ShloMosaic Idealize.ShloMosaic.Pointwise Cert.ReferenceIdeal.Read

/-- With a zero bias and channels in range, the reference's result at an image and a class. -/
theorem result_at (x0 : (⟨S256x14x14x192, .f32⟩ : BufTy).Contents (Elt Ideal)) (x1 : (⟨S192x384, .f32⟩ : BufTy).Contents (Elt Ideal))
    (x2 : (⟨S384, .f32⟩ : BufTy).Contents (Elt Ideal)) (x3 : (⟨S384x256, .f32⟩ : BufTy).Contents (Elt Ideal))
    (x4 : (⟨S256, .f32⟩ : BufTy).Contents (Elt Ideal)) (x5 : (⟨S256x1, .f32⟩ : BufTy).Contents (Elt Ideal))
    (x6 : (⟨S1, .f32⟩ : BufTy).Contents (Elt Ideal)) (x7 : (⟨S75264x3, .f32⟩ : BufTy).Contents (Elt Ideal))
    (x8 : (⟨S3, .f32⟩ : BufTy).Contents (Elt Ideal)) (x9 : (⟨S12544x1, .f32⟩ : BufTy).Contents (Elt Ideal))
    (x10 : (⟨S1, .f32⟩ : BufTy).Contents (Elt Ideal)) (x11 : (⟨S64, .i32⟩ : BufTy).Contents (Elt Ideal))
    (hb : ∀ c : Fin 384, x2 (ix1 c) = (0 : EReal))
    (σ : Fin 64 → Fin 384) (hσ : ∀ s : Fin 64, x11 (ix1 s) = BitVec.ofNat 32 (σ s).val) (b : Fin 256) (d : Fin 3) :
    val_main_v59 (F := Ideal) x0 x1 x2 x3 x4 x5 x6 x7 x8 x9 x10 x11 (ix2 b d) =
      Cert.Answer.answer (Cert.Answer.score (Cert.Answer.feat x0 x1 b) x3 x4 x5 x6)
        (Cert.Answer.patLogit (Cert.Answer.feat x0 x1 b) σ x9 x10) (Cert.Answer.baseLogit (Cert.Answer.feat x0 x1 b) x7 x8) d := by
  rw [out_at, score_at x0 x1 x2 x3 x4 x5 x6 hb, logit_at x0 x1 x2 x9 x10 x11 σ hσ hb]
  exact congrArg (fun f => Cert.Answer.answer _ _ f d) (funext fun x => base_at x0 x1 x2 x7 x8 hb b x)

end Cert.ReferenceIdeal.Out
end
end
-- ==== Proof.Pre.lean ====
/-
  What the precondition says of the arguments: the bias is zero and the chosen channels are distinct channels.
-/
module

public import proofs.«01_k».proof.Proof.Gen.Pre_zero_bias_distinct_channels
public import Idealize.ShloMosaic.Lib.Pointwise

@[expose] public section

set_option maxRecDepth 16384

noncomputable section

namespace Cert.Pre_zero_bias_distinct_channels

open Idealize.ShloMosaic Idealize.ShloMosaic.Pointwise

variable (x0 : FVec Ideal S256x14x14x192 .f32) (x1 : FVec Ideal S192x384 .f32) (x2 : FVec Ideal S384 .f32) (x3 : FVec Ideal S384x256 .f32)
  (x4 : FVec Ideal S256 .f32) (x5 : FVec Ideal S256x1 .f32) (x6 : FVec Ideal S1 .f32) (x7 : FVec Ideal S75264x3 .f32)
  (x8 : FVec Ideal S3 .f32) (x9 : FVec Ideal S12544x1 .f32) (x10 : FVec Ideal S1 .f32) (x11 : IVec S64 32)

/-- The bits of the three parts of the precondition, read one at a time. -/
theorem bias_bit (c : Fin 384) :
    (fn (F := Ideal) x0 x1 x2 x3 x4 x5 x6 x7 x8 x9 x10 x11).1 (ix1 c) = BitVec.ofBool (decide (x2 (ix1 c) = (0 : EReal))) := by
  pointwise [fn]

theorem range_bit (s : Fin 64) :
    (fn (F := Ideal) x0 x1 x2 x3 x4 x5 x6 x7 x8 x9 x10 x11).2.1 (ix1 s) =
      IntOp.andi (IntOp.cmpi CmpIPredicate.sge (x11 (ix1 s)) 0#32) (IntOp.cmpi CmpIPredicate.slt (x11 (ix1 s)) 384#32) := by
  pointwise [fn]

theorem pair_bit (s t : Fin 64) :
    (fn (F := Ideal) x0 x1 x2 x3 x4 x5 x6 x7 x8 x9 x10 x11).2.2 (ix2 s t) =
      IntOp.ori (IntOp.cmpi CmpIPredicate.eq (BitVec.ofNat 32 s.val) (BitVec.ofNat 32 t.val))
        (IntOp.cmpi CmpIPredicate.ne (x11 (ix1 s)) (x11 (ix1 t))) := by
  pointwise [fn]

/-- The bias is zero. -/
theorem bias_zero (h : (fn (F := Ideal) x0 x1 x2 x3 x4 x5 x6 x7 x8 x9 x10 x11).1 = fun _ => 1#1) (c : Fin 384) :
    x2 (ix1 c) = (0 : EReal) := by
  have e := (bias_bit x0 x1 x2 x3 x4 x5 x6 x7 x8 x9 x10 x11 c).symm.trans (congrFun h (ix1 c))
  by_contra hne
  rw [decide_eq_false hne] at e
  exact absurd e (by decide)

/-- Both bits of a conjunction that is set are set. -/
theorem both : ∀ a b : BitVec 1, IntOp.andi a b = 1#1 → a = 1#1 ∧ b = 1#1 := by decide

/-- One of the bits of a disjunction that is set is set. -/
theorem either : ∀ a b : BitVec 1, IntOp.ori a b = 1#1 → a = 1#1 ∨ b = 1#1 := by decide

/-- A truth value that reads one is true. -/
theorem of_bit : ∀ a : Bool, BitVec.ofBool a = 1#1 → a = true := by decide

/-- A signed word from 0 up to 384 is a number below 384. -/
theorem word_lt (x : BitVec 32) (h0 : IntOp.cmpi CmpIPredicate.sge x 0#32 = 1#1) (h1 : IntOp.cmpi CmpIPredicate.slt x 384#32 = 1#1) :
    x.toNat < 384 := by
  have a : (0 : ℤ) ≤ x.toInt := by
    have := of_bit _ h0
    simpa [BitVec.sle] using this
  have b : x.toInt < 384 := by
    have := of_bit _ h1
    simpa [BitVec.slt] using this
  rw [BitVec.toInt_eq_toNat_cond] at a b
  split at a <;> split at b <;> omega

/-- The chosen channels are channels, no two of them the same. -/
theorem channels (hr : (fn (F := Ideal) x0 x1 x2 x3 x4 x5 x6 x7 x8 x9 x10 x11).2.1 = fun _ => 1#1)
    (hd : (fn (F := Ideal) x0 x1 x2 x3 x4 x5 x6 x7 x8 x9 x10 x11).2.2 = fun _ => 1#1) :
    ∃ σ : Fin 64 → Fin 384, Function.Injective σ ∧ ∀ s : Fin 64, x11 (ix1 s) = BitVec.ofNat 32 (σ s).val := by
  have lt (s : Fin 64) : (x11 (ix1 s)).toNat < 384 := by
    have e := both _ _ ((range_bit x0 x1 x2 x3 x4 x5 x6 x7 x8 x9 x10 x11 s).symm.trans (congrFun hr (ix1 s)))
    exact word_lt _ e.1 e.2
  refine ⟨fun s => ⟨(x11 (ix1 s)).toNat, lt s⟩, fun s t e => ?_, fun s => BitVec.eq_of_toNat_eq (by
    have := lt s
    rw [BitVec.toNat_ofNat]
    show _ = (x11 (ix1 s)).toNat % 2 ^ 32
    omega)⟩
  have hx : x11 (ix1 s) = x11 (ix1 t) := BitVec.eq_of_toNat_eq (Fin.mk.inj e)
  rcases either _ _ ((pair_bit x0 x1 x2 x3 x4 x5 x6 x7 x8 x9 x10 x11 s t).symm.trans (congrFun hd (ix2 s t))) with h | h
  · have := of_bit _ h
    have w : BitVec.ofNat 32 s.val = BitVec.ofNat 32 t.val := by simpa using this
    have v := congrArg BitVec.toNat w
    rw [BitVec.toNat_ofNat, BitVec.toNat_ofNat] at v
    exact Fin.ext (by omega)
  · rw [hx] at h
    have := of_bit _ h
    simp at this

end Cert.Pre_zero_bias_distinct_channels
end
end
-- ==== Proof.Equation.lean ====
/-
  The equation: under the precondition, the two results are one array.
-/
module

public import proofs.«01_k».proof.Defs
public import proofs.«01_k».proof.Proof.KernelValue
public import proofs.«01_k».proof.Proof.RefValue
public import proofs.«01_k».proof.Proof.Pre
public import proofs.«01_k».proof.Proof.Gen.ReferenceIdeal.Run

@[expose] public section

noncomputable section

namespace Cert.Proof

open Idealize.ShloMosaic Idealize.ShloMosaic.TcCoe Idealize.SL.Sem Idealize.ShloMosaic.Pointwise

/-- The kernel's result array is the reference's function of the kernel's arguments. -/
theorem equation (m : (ℓ : Loc Cert.KernelIdeal.nD Cert.KernelIdeal.τ Cert.KernelIdeal.sig) → Buf (Elt Ideal) ℓ)
    (hpre : Pre_KernelIdeal_zero_bias_distinct_channels m) (c : Dev Cert.KernelIdeal.nD) :
    Cert.ReferenceIdeal.Read.val_main_v59 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
      = Cert.KernelIdeal.Value.G12 m c := by
  obtain ⟨hz, hr, hd⟩ := hpre c
  obtain ⟨σ, hi, hσ⟩ := Cert.Pre_zero_bias_distinct_channels.channels _ _ _ _ _ _ _ _ _ _ _ _ hr hd
  have hb := Cert.Pre_zero_bias_distinct_channels.bias_zero _ _ _ _ _ _ _ _ _ _ _ _ hz
  refine funext fun i => ?_
  obtain ⟨b, d, rfl⟩ : ∃ (b : Fin 256) (d : Fin 3), i = ix2 b d :=
    ⟨i 0, i 1, funext fun a => by match a with | ⟨0, _⟩ => rfl | ⟨1, _⟩ => rfl⟩
  exact (Cert.ReferenceIdeal.Out.result_at _ _ _ _ _ _ _ _ _ _ _ _ hb σ hσ b d).trans
    (Cert.KernelIdeal.Out.result_at m c σ hσ hi b d).symm

end Cert.Proof
end
end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Equation
public import proofs.«01_k».proof.Proof.Gen.Pre_zero_bias_distinct_channels
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : algebraic_KernelIdeal_ReferenceIdeal_pre_zero_bias_distinct_channels := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨e0, e1, e2, e3, e4, e5, e6, e7, e8, e9, e10, e11⟩ := hagree c
  rw [Cert.ReferenceIdeal.Read.val_main_v59_eq, e0, e1, e2, e3, e4, e5, e6, e7, e8, e9, e10, e11]
  exact equation m hpre c

theorem claim : Cert.Claim := ⟨Cert.Kernel.Gen.facts, Cert.KernelIdeal.Gen.facts, Cert.ReferenceIdeal.Gen.facts, Cert.Pre_zero_bias_distinct_channels.Gen.facts,
  fun m ρ _ => Cert.Kernel.Gen.frame m ρ, fun m ρ _ => Cert.KernelIdeal.Gen.frame m ρ,
  fun m ρ _ => Cert.KernelIdeal.Gen.frame m ρ, quiescent_ReferenceIdeal, fun m ρ _ => quiescent_ReferenceIdeal m ρ trivial,
  IdealRules.named_const.statement Cert.KernelIdeal.κ "inv_hw" .f32 0x3BA72F05#32 ((1 / 196 : ℝ) : EReal) rfl, algebraic⟩

end Cert.Proof

end
